-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32896 : Shape := ⟨2, ![1024, 32896]⟩
abbrev S1024x256x256 : Shape := ⟨3, ![1024, 256, 256]⟩
abbrev S256x256 : Shape := ⟨2, ![256, 256]⟩
abbrev S32896 : Shape := ⟨1, ![32896]⟩
abbrev S_ : Shape := ⟨0, ![]⟩
abbrev S16 : Shape := ⟨1, ![16]⟩
abbrev S16384 : Shape := ⟨1, ![16384]⟩
abbrev S1x16384 : Shape := ⟨2, ![1, 16384]⟩
abbrev S16512 : Shape := ⟨1, ![16512]⟩
abbrev S1x16512 : Shape := ⟨2, ![1, 16512]⟩
abbrev S1x16 : Shape := ⟨2, ![1, 16]⟩
abbrev S128x256 : Shape := ⟨2, ![128, 256]⟩
abbrev S1x128x256 : Shape := ⟨3, ![1, 128, 256]⟩

abbrev nBuf : Table → Nat
  | .hbm => 2
  | .local .scVector .vmem => 2
  | _ => 0

abbrev bufTy : (tb : Table) → Fin (nBuf tb) → BufTy
  | .hbm, ⟨0, _⟩ => ⟨S1024x32896, .f32⟩
  | .hbm, ⟨1, _⟩ => ⟨S1024x256x256, .f32⟩
  | .local .scVector .vmem, ⟨0, _⟩ => ⟨S256x256, .f32⟩
  | .local .scVector .vmem, ⟨1, _⟩ => ⟨S32896, .f32⟩
  | _, _ => ⟨S1024x32896, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16384_i32_3 : BitVec 32 := 16384#32
  ![v2.toNat, 16384]
@[reducible] def k0_t1_loop : Scf.Loop 32 :=
  let c0_i32_6 : BitVec 32 := 0#32
  let c256_i32 : BitVec 32 := 256#32
  let v17 : BitVec 32 := Scalar.addi c0_i32_6 c256_i32
  let c1_i32 : BitVec 32 := 1#32
  ⟨c0_i32_6, v17, c1_i32⟩
def k0_off3 (k0_t1 : Fin k0_t1_loop.trips) : Fin 2 → Nat :=
  let c0_i32_101 : BitVec 32 := 0#32
  let c0_i32_6 : BitVec 32 := 0#32
  let c1_i32 : BitVec 32 := 1#32
  let arg10 : BitVec 32 := Scf.iv c0_i32_6 c1_i32 k0_t1
  let c1_i32_100 : BitVec 32 := 1#32
  let v63 : BitVec 32 := Scalar.muli arg10 c1_i32_100
  let v64 : BitVec 32 := Scalar.addi c0_i32_101 v63
  let v65 : Index := Scalar.indexCast v64
  let c0 : Index := 0#32
  ![v65.toNat, 0]
@[reducible] def k0_t2_loop : Scf.Loop 32 :=
  let c0_i32_8 : BitVec 32 := 0#32
  let c256_i32_9 : BitVec 32 := 256#32
  let v18 : BitVec 32 := Scalar.addi c0_i32_8 c256_i32_9
  let c1_i32_10 : BitVec 32 := 1#32
  ⟨c0_i32_8, v18, c1_i32_10⟩
def k0_off4 (k0_t2 : Fin k0_t2_loop.trips) : Fin 2 → Nat :=
  let c0_i32_101 : BitVec 32 := 0#32
  let c0_i32_8 : BitVec 32 := 0#32
  let c1_i32_10 : BitVec 32 := 1#32
  let arg10 : BitVec 32 := Scf.iv c0_i32_8 c1_i32_10 k0_t2
  let c1_i32_100 : BitVec 32 := 1#32
  let v63 : BitVec 32 := Scalar.muli arg10 c1_i32_100
  let v64 : BitVec 32 := Scalar.addi c0_i32_101 v63
  let v65 : Index := Scalar.indexCast v64
  let c16 : Index := 16#32
  ![v65.toNat, 16]
@[reducible] def k0_t3_loop : Scf.Loop 32 :=
  let c0_i32_12 : BitVec 32 := 0#32
  let c256_i32_13 : BitVec 32 := 256#32
  let v19 : BitVec 32 := Scalar.addi c0_i32_12 c256_i32_13
  let c1_i32_14 : BitVec 32 := 1#32
  ⟨c0_i32_12, v19, c1_i32_14⟩
def k0_off5 (k0_t3 : Fin k0_t3_loop.trips) : Fin 2 → Nat :=
  let c0_i32_101 : BitVec 32 := 0#32
  let c0_i32_12 : BitVec 32 := 0#32
  let c1_i32_14 : BitVec 32 := 1#32
  let arg10 : BitVec 32 := Scf.iv c0_i32_12 c1_i32_14 k0_t3
  let c1_i32_100 : BitVec 32 := 1#32
  let v63 : BitVec 32 := Scalar.muli arg10 c1_i32_100
  let v64 : BitVec 32 := Scalar.addi c0_i32_101 v63
  let v65 : Index := Scalar.indexCast v64
  let c32 : Index := 32#32
  ![v65.toNat, 32]
@[reducible] def k0_t4_loop : Scf.Loop 32 :=
  let c0_i32_16 : BitVec 32 := 0#32
  let c256_i32_17 : BitVec 32 := 256#32
  let v20 : BitVec 32 := Scalar.addi c0_i32_16 c256_i32_17
  let c1_i32_18 : BitVec 32 := 1#32
  ⟨c0_i32_16, v20, c1_i32_18⟩
def k0_off6 (k0_t4 : Fin k0_t4_loop.trips) : Fin 2 → Nat :=
  let c0_i32_101 : BitVec 32 := 0#32
  let c0_i32_16 : BitVec 32 := 0#32
  let c1_i32_18 : BitVec 32 := 1#32
  let arg10 : BitVec 32 := Scf.iv c0_i32_16 c1_i32_18 k0_t4
  let c1_i32_100 : BitVec 32 := 1#32
  let v63 : BitVec 32 := Scalar.muli arg10 c1_i32_100
  let v64 : BitVec 32 := Scalar.addi c0_i32_101 v63
  let v65 : Index := Scalar.indexCast v64
  let c48 : Index := 48#32
  ![v65.toNat, 48]
@[reducible] def k0_t5_loop : Scf.Loop 32 :=
  let c0_i32_20 : BitVec 32 := 0#32
  let c256_i32_21 : BitVec 32 := 256#32
  let v21 : BitVec 32 := Scalar.addi c0_i32_20 c256_i32_21
  let c1_i32_22 : BitVec 32 := 1#32
  ⟨c0_i32_20, v21, c1_i32_22⟩
def k0_off7 (k0_t5 : Fin k0_t5_loop.trips) : Fin 2 → Nat :=
  let c0_i32_101 : BitVec 32 := 0#32
  let c0_i32_20 : BitVec 32 := 0#32
  let c1_i32_22 : BitVec 32 := 1#32
  let arg10 : BitVec 32 := Scf.iv c0_i32_20 c1_i32_22 k0_t5
  let c1_i32_100 : BitVec 32 := 1#32
  let v63 : BitVec 32 := Scalar.muli arg10 c1_i32_100
  let v64 : BitVec 32 := Scalar.addi c0_i32_101 v63
  let v65 : Index := Scalar.indexCast v64
  let c64 : Index := 64#32
  ![v65.toNat, 64]
@[reducible] def k0_t6_loop : Scf.Loop 32 :=
  let c0_i32_24 : BitVec 32 := 0#32
  let c256_i32_25 : BitVec 32 := 256#32
  let v22 : BitVec 32 := Scalar.addi c0_i32_24 c256_i32_25
  let c1_i32_26 : BitVec 32 := 1#32
  ⟨c0_i32_24, v22, c1_i32_26⟩
def k0_off8 (k0_t6 : Fin k0_t6_loop.trips) : Fin 2 → Nat :=
  let c0_i32_101 : BitVec 32 := 0#32
  let c0_i32_24 : BitVec 32 := 0#32
  let c1_i32_26 : BitVec 32 := 1#32
  let arg10 : BitVec 32 := Scf.iv c0_i32_24 c1_i32_26 k0_t6
  let c1_i32_100 : BitVec 32 := 1#32
  let v63 : BitVec 32 := Scalar.muli arg10 c1_i32_100
  let v64 : BitVec 32 := Scalar.addi c0_i32_101 v63
  let v65 : Index := Scalar.indexCast v64
  let c80 : Index := 80#32
  ![v65.toNat, 80]
@[reducible] def k0_t7_loop : Scf.Loop 32 :=
  let c0_i32_28 : BitVec 32 := 0#32
  let c256_i32_29 : BitVec 32 := 256#32
  let v23 : BitVec 32 := Scalar.addi c0_i32_28 c256_i32_29
  let c1_i32_30 : BitVec 32 := 1#32
  ⟨c0_i32_28, v23, c1_i32_30⟩
def k0_off9 (k0_t7 : Fin k0_t7_loop.trips) : Fin 2 → Nat :=
  let c0_i32_101 : BitVec 32 := 0#32
  let c0_i32_28 : BitVec 32 := 0#32
  let c1_i32_30 : BitVec 32 := 1#32
  let arg10 : BitVec 32 := Scf.iv c0_i32_28 c1_i32_30 k0_t7
  let c1_i32_100 : BitVec 32 := 1#32
  let v63 : BitVec 32 := Scalar.muli arg10 c1_i32_100
  let v64 : BitVec 32 := Scalar.addi c0_i32_101 v63
  let v65 : Index := Scalar.indexCast v64
  let c96 : Index := 96#32
  ![v65.toNat, 96]
@[reducible] def k0_t8_loop : Scf.Loop 32 :=
  let c0_i32_32 : BitVec 32 := 0#32
  let c256_i32_33 : BitVec 32 := 256#32
  let v24 : BitVec 32 := Scalar.addi c0_i32_32 c256_i32_33
  let c1_i32_34 : BitVec 32 := 1#32
  ⟨c0_i32_32, v24, c1_i32_34⟩
def k0_off10 (k0_t8 : Fin k0_t8_loop.trips) : Fin 2 → Nat :=
  let c0_i32_101 : BitVec 32 := 0#32
  let c0_i32_32 : BitVec 32 := 0#32
  let c1_i32_34 : BitVec 32 := 1#32
  let arg10 : BitVec 32 := Scf.iv c0_i32_32 c1_i32_34 k0_t8
  let c1_i32_100 : BitVec 32 := 1#32
  let v63 : BitVec 32 := Scalar.muli arg10 c1_i32_100
  let v64 : BitVec 32 := Scalar.addi c0_i32_101 v63
  let v65 : Index := Scalar.indexCast v64
  let c112 : Index := 112#32
  ![v65.toNat, 112]
@[reducible] def k0_t9_loop : Scf.Loop 32 :=
  let c0_i32_36 : BitVec 32 := 0#32
  let c256_i32_37 : BitVec 32 := 256#32
  let v25 : BitVec 32 := Scalar.addi c0_i32_36 c256_i32_37
  let c1_i32_38 : BitVec 32 := 1#32
  ⟨c0_i32_36, v25, c1_i32_38⟩
def k0_off11 (k0_t9 : Fin k0_t9_loop.trips) : Fin 2 → Nat :=
  let c0_i32_101 : BitVec 32 := 0#32
  let c0_i32_36 : BitVec 32 := 0#32
  let c1_i32_38 : BitVec 32 := 1#32
  let arg10 : BitVec 32 := Scf.iv c0_i32_36 c1_i32_38 k0_t9
  let c1_i32_100 : BitVec 32 := 1#32
  let v63 : BitVec 32 := Scalar.muli arg10 c1_i32_100
  let v64 : BitVec 32 := Scalar.addi c0_i32_101 v63
  let v65 : Index := Scalar.indexCast v64
  let c128 : Index := 128#32
  ![v65.toNat, 128]
@[reducible] def k0_t10_loop : Scf.Loop 32 :=
  let c0_i32_40 : BitVec 32 := 0#32
  let c256_i32_41 : BitVec 32 := 256#32
  let v26 : BitVec 32 := Scalar.addi c0_i32_40 c256_i32_41
  let c1_i32_42 : BitVec 32 := 1#32
  ⟨c0_i32_40, v26, c1_i32_42⟩
def k0_off12 (k0_t10 : Fin k0_t10_loop.trips) : Fin 2 → Nat :=
  let c0_i32_101 : BitVec 32 := 0#32
  let c0_i32_40 : BitVec 32 := 0#32
  let c1_i32_42 : BitVec 32 := 1#32
  let arg10 : BitVec 32 := Scf.iv c0_i32_40 c1_i32_42 k0_t10
  let c1_i32_100 : BitVec 32 := 1#32
  let v63 : BitVec 32 := Scalar.muli arg10 c1_i32_100
  let v64 : BitVec 32 := Scalar.addi c0_i32_101 v63
  let v65 : Index := Scalar.indexCast v64
  let c144 : Index := 144#32
  ![v65.toNat, 144]
@[reducible] def k0_t11_loop : Scf.Loop 32 :=
  let c0_i32_44 : BitVec 32 := 0#32
  let c256_i32_45 : BitVec 32 := 256#32
  let v27 : BitVec 32 := Scalar.addi c0_i32_44 c256_i32_45
  let c1_i32_46 : BitVec 32 := 1#32
  ⟨c0_i32_44, v27, c1_i32_46⟩
def k0_off13 (k0_t11 : Fin k0_t11_loop.trips) : Fin 2 → Nat :=
  let c0_i32_101 : BitVec 32 := 0#32
  let c0_i32_44 : BitVec 32 := 0#32
  let c1_i32_46 : BitVec 32 := 1#32
  let arg10 : BitVec 32 := Scf.iv c0_i32_44 c1_i32_46 k0_t11
  let c1_i32_100 : BitVec 32 := 1#32
  let v63 : BitVec 32 := Scalar.muli arg10 c1_i32_100
  let v64 : BitVec 32 := Scalar.addi c0_i32_101 v63
  let v65 : Index := Scalar.indexCast v64
  let c160 : Index := 160#32
  ![v65.toNat, 160]
@[reducible] def k0_t12_loop : Scf.Loop 32 :=
  let c0_i32_48 : BitVec 32 := 0#32
  let c256_i32_49 : BitVec 32 := 256#32
  let v28 : BitVec 32 := Scalar.addi c0_i32_48 c256_i32_49
  let c1_i32_50 : BitVec 32 := 1#32
  ⟨c0_i32_48, v28, c1_i32_50⟩
def k0_off14 (k0_t12 : Fin k0_t12_loop.trips) : Fin 2 → Nat :=
  let c0_i32_101 : BitVec 32 := 0#32
  let c0_i32_48 : BitVec 32 := 0#32
  let c1_i32_50 : BitVec 32 := 1#32
  let arg10 : BitVec 32 := Scf.iv c0_i32_48 c1_i32_50 k0_t12
  let c1_i32_100 : BitVec 32 := 1#32
  let v63 : BitVec 32 := Scalar.muli arg10 c1_i32_100
  let v64 : BitVec 32 := Scalar.addi c0_i32_101 v63
  let v65 : Index := Scalar.indexCast v64
  let c176 : Index := 176#32
  ![v65.toNat, 176]
@[reducible] def k0_t13_loop : Scf.Loop 32 :=
  let c0_i32_52 : BitVec 32 := 0#32
  let c256_i32_53 : BitVec 32 := 256#32
  let v29 : BitVec 32 := Scalar.addi c0_i32_52 c256_i32_53
  let c1_i32_54 : BitVec 32 := 1#32
  ⟨c0_i32_52, v29, c1_i32_54⟩
def k0_off15 (k0_t13 : Fin k0_t13_loop.trips) : Fin 2 → Nat :=
  let c0_i32_101 : BitVec 32 := 0#32
  let c0_i32_52 : BitVec 32 := 0#32
  let c1_i32_54 : BitVec 32 := 1#32
  let arg10 : BitVec 32 := Scf.iv c0_i32_52 c1_i32_54 k0_t13
  let c1_i32_100 : BitVec 32 := 1#32
  let v63 : BitVec 32 := Scalar.muli arg10 c1_i32_100
  let v64 : BitVec 32 := Scalar.addi c0_i32_101 v63
  let v65 : Index := Scalar.indexCast v64
  let c192 : Index := 192#32
  ![v65.toNat, 192]
@[reducible] def k0_t14_loop : Scf.Loop 32 :=
  let c0_i32_56 : BitVec 32 := 0#32
  let c256_i32_57 : BitVec 32 := 256#32
  let v30 : BitVec 32 := Scalar.addi c0_i32_56 c256_i32_57
  let c1_i32_58 : BitVec 32 := 1#32
  ⟨c0_i32_56, v30, c1_i32_58⟩
def k0_off16 (k0_t14 : Fin k0_t14_loop.trips) : Fin 2 → Nat :=
  let c0_i32_101 : BitVec 32 := 0#32
  let c0_i32_56 : BitVec 32 := 0#32
  let c1_i32_58 : BitVec 32 := 1#32
  let arg10 : BitVec 32 := Scf.iv c0_i32_56 c1_i32_58 k0_t14
  let c1_i32_100 : BitVec 32 := 1#32
  let v63 : BitVec 32 := Scalar.muli arg10 c1_i32_100
  let v64 : BitVec 32 := Scalar.addi c0_i32_101 v63
  let v65 : Index := Scalar.indexCast v64
  let c208 : Index := 208#32
  ![v65.toNat, 208]
@[reducible] def k0_t15_loop : Scf.Loop 32 :=
  let c0_i32_60 : BitVec 32 := 0#32
  let c256_i32_61 : BitVec 32 := 256#32
  let v31 : BitVec 32 := Scalar.addi c0_i32_60 c256_i32_61
  let c1_i32_62 : BitVec 32 := 1#32
  ⟨c0_i32_60, v31, c1_i32_62⟩
def k0_off17 (k0_t15 : Fin k0_t15_loop.trips) : Fin 2 → Nat :=
  let c0_i32_101 : BitVec 32 := 0#32
  let c0_i32_60 : BitVec 32 := 0#32
  let c1_i32_62 : BitVec 32 := 1#32
  let arg10 : BitVec 32 := Scf.iv c0_i32_60 c1_i32_62 k0_t15
  let c1_i32_100 : BitVec 32 := 1#32
  let v63 : BitVec 32 := Scalar.muli arg10 c1_i32_100
  let v64 : BitVec 32 := Scalar.addi c0_i32_101 v63
  let v65 : Index := Scalar.indexCast v64
  let c224 : Index := 224#32
  ![v65.toNat, 224]
@[reducible] def k0_t16_loop : Scf.Loop 32 :=
  let c0_i32_64 : BitVec 32 := 0#32
  let c256_i32_65 : BitVec 32 := 256#32
  let v32 : BitVec 32 := Scalar.addi c0_i32_64 c256_i32_65
  let c1_i32_66 : BitVec 32 := 1#32
  ⟨c0_i32_64, v32, c1_i32_66⟩
def k0_off18 (k0_t16 : Fin k0_t16_loop.trips) : Fin 2 → Nat :=
  let c0_i32_101 : BitVec 32 := 0#32
  let c0_i32_64 : BitVec 32 := 0#32
  let c1_i32_66 : BitVec 32 := 1#32
  let arg10 : BitVec 32 := Scf.iv c0_i32_64 c1_i32_66 k0_t16
  let c1_i32_100 : BitVec 32 := 1#32
  let v63 : BitVec 32 := Scalar.muli arg10 c1_i32_100
  let v64 : BitVec 32 := Scalar.addi c0_i32_101 v63
  let v65 : Index := Scalar.indexCast v64
  let c240 : Index := 240#32
  ![v65.toNat, 240]
@[reducible] def k0_t17_loop : Scf.Loop 32 :=
  let c0_i32_77 : BitVec 32 := 0#32
  let c32_i32_78 : BitVec 32 := 32#32
  let v45 : BitVec 32 := Scalar.addi c0_i32_77 c32_i32_78
  let c1_i32_79 : BitVec 32 := 1#32
  ⟨c0_i32_77, v45, c1_i32_79⟩
def k0_cond1 (k0_t17 : Fin k0_t17_loop.trips) : BitVec 1 :=
  let c0_i32_77 : BitVec 32 := 0#32
  let c1_i32_79 : BitVec 32 := 1#32
  let arg10 : BitVec 32 := Scf.iv c0_i32_77 c1_i32_79 k0_t17
  let c0_i32_100 : BitVec 32 := 0#32
  let v64 : BitVec 1 := Scalar.cmpi .sgt arg10 c0_i32_100
  let v65 : BitVec 32 := Scalar.extui v64
  let c0_i32_101 : BitVec 32 := 0#32
  let v66 : BitVec 1 := Scalar.cmpi .ne v65 c0_i32_101
  v66

def k0_off19 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c16384_i32_260 : BitVec 32 := 16384#32
  ![v63.toNat, 16384]
def k0_off20 (i : grid0.Coords) (k0_t17 : Fin k0_t17_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c1_i32_263 : BitVec 32 := 1#32
  let v133 : BitVec 32 := Scalar.subi v63 c1_i32_263
  let c128_i32_266 : BitVec 32 := 128#32
  let c0_i32_267 : BitVec 32 := 0#32
  ![v133.toNat, 128, 0]
@[reducible] def k0_t18_loop : Scf.Loop 32 :=
  let c0_i32_102 : BitVec 32 := 0#32
  let c75_i32 : BitVec 32 := 75#32
  let v67 : BitVec 32 := Scalar.addi c0_i32_102 c75_i32
  let c1_i32_103 : BitVec 32 := 1#32
  ⟨c0_i32_102, v67, c1_i32_103⟩
def k0_off21 (k0_t18 : Fin k0_t18_loop.trips) : Fin 1 → Nat :=
  let c181_i32 : BitVec 32 := 181#32
  let c0_i32_102 : BitVec 32 := 0#32
  let c1_i32_103 : BitVec 32 := 1#32
  let arg12 : BitVec 32 := Scf.iv c0_i32_102 c1_i32_103 k0_t18
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c0_i32_262 : BitVec 32 := 0#32
  let v132 : BitVec 32 := Scalar.addi v131 c0_i32_262
  let v133 : Index := Scalar.indexCast v132
  ![v133.toNat]
def k0_off22 (k0_t18 : Fin k0_t18_loop.trips) : Fin 2 → Nat :=
  let c181_i32 : BitVec 32 := 181#32
  let c0_i32_102 : BitVec 32 := 0#32
  let c1_i32_103 : BitVec 32 := 1#32
  let arg12 : BitVec 32 := Scf.iv c0_i32_102 c1_i32_103 k0_t18
  let c1_i32_259 : BitVec 32 := 1#32
  let v127 : BitVec 32 := Scalar.muli arg12 c1_i32_259
  let v128 : BitVec 32 := Scalar.addi c181_i32 v127
  let v136 : Index := Scalar.indexCast v128
  let c0 : Index := 0#32
  ![v136.toNat, 0]
@[reducible] def k0_t19_loop : Scf.Loop 32 :=
  let c0_i32_105 : BitVec 32 := 0#32
  let c75_i32_106 : BitVec 32 := 75#32
  let v68 : BitVec 32 := Scalar.addi c0_i32_105 c75_i32_106
  let c1_i32_107 : BitVec 32 := 1#32
  ⟨c0_i32_105, v68, c1_i32_107⟩
def k0_off23 (k0_t19 : Fin k0_t19_loop.trips) : Fin 1 → Nat :=
  let c181_i32 : BitVec 32 := 181#32
  let c0_i32_105 : BitVec 32 := 0#32
  let c1_i32_107 : BitVec 32 := 1#32
  let arg12 : BitVec 32 := Scf.iv c0_i32_105 c1_i32_107 k0_t19
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c16_i32_262 : BitVec 32 := 16#32
  let v132 : BitVec 32 := Scalar.addi v131 c16_i32_262
  let v133 : Index := Scalar.indexCast v132
  ![v133.toNat]
def k0_off24 (k0_t19 : Fin k0_t19_loop.trips) : Fin 2 → Nat :=
  let c181_i32 : BitVec 32 := 181#32
  let c0_i32_105 : BitVec 32 := 0#32
  let c1_i32_107 : BitVec 32 := 1#32
  let arg12 : BitVec 32 := Scf.iv c0_i32_105 c1_i32_107 k0_t19
  let c1_i32_259 : BitVec 32 := 1#32
  let v127 : BitVec 32 := Scalar.muli arg12 c1_i32_259
  let v128 : BitVec 32 := Scalar.addi c181_i32 v127
  let v136 : Index := Scalar.indexCast v128
  let c16 : Index := 16#32
  ![v136.toNat, 16]
@[reducible] def k0_t20_loop : Scf.Loop 32 :=
  let c0_i32_109 : BitVec 32 := 0#32
  let c75_i32_110 : BitVec 32 := 75#32
  let v69 : BitVec 32 := Scalar.addi c0_i32_109 c75_i32_110
  let c1_i32_111 : BitVec 32 := 1#32
  ⟨c0_i32_109, v69, c1_i32_111⟩
def k0_off25 (k0_t20 : Fin k0_t20_loop.trips) : Fin 1 → Nat :=
  let c181_i32 : BitVec 32 := 181#32
  let c0_i32_109 : BitVec 32 := 0#32
  let c1_i32_111 : BitVec 32 := 1#32
  let arg12 : BitVec 32 := Scf.iv c0_i32_109 c1_i32_111 k0_t20
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c32_i32_262 : BitVec 32 := 32#32
  let v132 : BitVec 32 := Scalar.addi v131 c32_i32_262
  let v133 : Index := Scalar.indexCast v132
  ![v133.toNat]
def k0_off26 (k0_t20 : Fin k0_t20_loop.trips) : Fin 2 → Nat :=
  let c181_i32 : BitVec 32 := 181#32
  let c0_i32_109 : BitVec 32 := 0#32
  let c1_i32_111 : BitVec 32 := 1#32
  let arg12 : BitVec 32 := Scf.iv c0_i32_109 c1_i32_111 k0_t20
  let c1_i32_259 : BitVec 32 := 1#32
  let v127 : BitVec 32 := Scalar.muli arg12 c1_i32_259
  let v128 : BitVec 32 := Scalar.addi c181_i32 v127
  let v136 : Index := Scalar.indexCast v128
  let c32 : Index := 32#32
  ![v136.toNat, 32]
@[reducible] def k0_t21_loop : Scf.Loop 32 :=
  let c0_i32_113 : BitVec 32 := 0#32
  let c75_i32_114 : BitVec 32 := 75#32
  let v70 : BitVec 32 := Scalar.addi c0_i32_113 c75_i32_114
  let c1_i32_115 : BitVec 32 := 1#32
  ⟨c0_i32_113, v70, c1_i32_115⟩
def k0_off27 (k0_t21 : Fin k0_t21_loop.trips) : Fin 1 → Nat :=
  let c181_i32 : BitVec 32 := 181#32
  let c0_i32_113 : BitVec 32 := 0#32
  let c1_i32_115 : BitVec 32 := 1#32
  let arg12 : BitVec 32 := Scf.iv c0_i32_113 c1_i32_115 k0_t21
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c48_i32_262 : BitVec 32 := 48#32
  let v132 : BitVec 32 := Scalar.addi v131 c48_i32_262
  let v133 : Index := Scalar.indexCast v132
  ![v133.toNat]
def k0_off28 (k0_t21 : Fin k0_t21_loop.trips) : Fin 2 → Nat :=
  let c181_i32 : BitVec 32 := 181#32
  let c0_i32_113 : BitVec 32 := 0#32
  let c1_i32_115 : BitVec 32 := 1#32
  let arg12 : BitVec 32 := Scf.iv c0_i32_113 c1_i32_115 k0_t21
  let c1_i32_259 : BitVec 32 := 1#32
  let v127 : BitVec 32 := Scalar.muli arg12 c1_i32_259
  let v128 : BitVec 32 := Scalar.addi c181_i32 v127
  let v136 : Index := Scalar.indexCast v128
  let c48 : Index := 48#32
  ![v136.toNat, 48]
@[reducible] def k0_t22_loop : Scf.Loop 32 :=
  let c0_i32_117 : BitVec 32 := 0#32
  let c75_i32_118 : BitVec 32 := 75#32
  let v71 : BitVec 32 := Scalar.addi c0_i32_117 c75_i32_118
  let c1_i32_119 : BitVec 32 := 1#32
  ⟨c0_i32_117, v71, c1_i32_119⟩
def k0_off29 (k0_t22 : Fin k0_t22_loop.trips) : Fin 1 → Nat :=
  let c181_i32 : BitVec 32 := 181#32
  let c0_i32_117 : BitVec 32 := 0#32
  let c1_i32_119 : BitVec 32 := 1#32
  let arg12 : BitVec 32 := Scf.iv c0_i32_117 c1_i32_119 k0_t22
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c64_i32_262 : BitVec 32 := 64#32
  let v132 : BitVec 32 := Scalar.addi v131 c64_i32_262
  let v133 : Index := Scalar.indexCast v132
  ![v133.toNat]
def k0_off30 (k0_t22 : Fin k0_t22_loop.trips) : Fin 2 → Nat :=
  let c181_i32 : BitVec 32 := 181#32
  let c0_i32_117 : BitVec 32 := 0#32
  let c1_i32_119 : BitVec 32 := 1#32
  let arg12 : BitVec 32 := Scf.iv c0_i32_117 c1_i32_119 k0_t22
  let c1_i32_259 : BitVec 32 := 1#32
  let v127 : BitVec 32 := Scalar.muli arg12 c1_i32_259
  let v128 : BitVec 32 := Scalar.addi c181_i32 v127
  let v136 : Index := Scalar.indexCast v128
  let c64 : Index := 64#32
  ![v136.toNat, 64]
@[reducible] def k0_t23_loop : Scf.Loop 32 :=
  let c0_i32_121 : BitVec 32 := 0#32
  let c75_i32_122 : BitVec 32 := 75#32
  let v72 : BitVec 32 := Scalar.addi c0_i32_121 c75_i32_122
  let c1_i32_123 : BitVec 32 := 1#32
  ⟨c0_i32_121, v72, c1_i32_123⟩
def k0_off31 (k0_t23 : Fin k0_t23_loop.trips) : Fin 1 → Nat :=
  let c181_i32 : BitVec 32 := 181#32
  let c0_i32_121 : BitVec 32 := 0#32
  let c1_i32_123 : BitVec 32 := 1#32
  let arg12 : BitVec 32 := Scf.iv c0_i32_121 c1_i32_123 k0_t23
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c80_i32_262 : BitVec 32 := 80#32
  let v132 : BitVec 32 := Scalar.addi v131 c80_i32_262
  let v133 : Index := Scalar.indexCast v132
  ![v133.toNat]
def k0_off32 (k0_t23 : Fin k0_t23_loop.trips) : Fin 2 → Nat :=
  let c181_i32 : BitVec 32 := 181#32
  let c0_i32_121 : BitVec 32 := 0#32
  let c1_i32_123 : BitVec 32 := 1#32
  let arg12 : BitVec 32 := Scf.iv c0_i32_121 c1_i32_123 k0_t23
  let c1_i32_259 : BitVec 32 := 1#32
  let v127 : BitVec 32 := Scalar.muli arg12 c1_i32_259
  let v128 : BitVec 32 := Scalar.addi c181_i32 v127
  let v136 : Index := Scalar.indexCast v128
  let c80 : Index := 80#32
  ![v136.toNat, 80]
@[reducible] def k0_t24_loop : Scf.Loop 32 :=
  let c0_i32_125 : BitVec 32 := 0#32
  let c75_i32_126 : BitVec 32 := 75#32
  let v73 : BitVec 32 := Scalar.addi c0_i32_125 c75_i32_126
  let c1_i32_127 : BitVec 32 := 1#32
  ⟨c0_i32_125, v73, c1_i32_127⟩
def k0_off33 (k0_t24 : Fin k0_t24_loop.trips) : Fin 1 → Nat :=
  let c181_i32 : BitVec 32 := 181#32
  let c0_i32_125 : BitVec 32 := 0#32
  let c1_i32_127 : BitVec 32 := 1#32
  let arg12 : BitVec 32 := Scf.iv c0_i32_125 c1_i32_127 k0_t24
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c96_i32_262 : BitVec 32 := 96#32
  let v132 : BitVec 32 := Scalar.addi v131 c96_i32_262
  let v133 : Index := Scalar.indexCast v132
  ![v133.toNat]
def k0_off34 (k0_t24 : Fin k0_t24_loop.trips) : Fin 2 → Nat :=
  let c181_i32 : BitVec 32 := 181#32
  let c0_i32_125 : BitVec 32 := 0#32
  let c1_i32_127 : BitVec 32 := 1#32
  let arg12 : BitVec 32 := Scf.iv c0_i32_125 c1_i32_127 k0_t24
  let c1_i32_259 : BitVec 32 := 1#32
  let v127 : BitVec 32 := Scalar.muli arg12 c1_i32_259
  let v128 : BitVec 32 := Scalar.addi c181_i32 v127
  let v136 : Index := Scalar.indexCast v128
  let c96 : Index := 96#32
  ![v136.toNat, 96]
@[reducible] def k0_t25_loop : Scf.Loop 32 :=
  let c0_i32_129 : BitVec 32 := 0#32
  let c75_i32_130 : BitVec 32 := 75#32
  let v74 : BitVec 32 := Scalar.addi c0_i32_129 c75_i32_130
  let c1_i32_131 : BitVec 32 := 1#32
  ⟨c0_i32_129, v74, c1_i32_131⟩
def k0_off35 (k0_t25 : Fin k0_t25_loop.trips) : Fin 1 → Nat :=
  let c181_i32 : BitVec 32 := 181#32
  let c0_i32_129 : BitVec 32 := 0#32
  let c1_i32_131 : BitVec 32 := 1#32
  let arg12 : BitVec 32 := Scf.iv c0_i32_129 c1_i32_131 k0_t25
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c112_i32_262 : BitVec 32 := 112#32
  let v132 : BitVec 32 := Scalar.addi v131 c112_i32_262
  let v133 : Index := Scalar.indexCast v132
  ![v133.toNat]
def k0_off36 (k0_t25 : Fin k0_t25_loop.trips) : Fin 2 → Nat :=
  let c181_i32 : BitVec 32 := 181#32
  let c0_i32_129 : BitVec 32 := 0#32
  let c1_i32_131 : BitVec 32 := 1#32
  let arg12 : BitVec 32 := Scf.iv c0_i32_129 c1_i32_131 k0_t25
  let c1_i32_259 : BitVec 32 := 1#32
  let v127 : BitVec 32 := Scalar.muli arg12 c1_i32_259
  let v128 : BitVec 32 := Scalar.addi c181_i32 v127
  let v136 : Index := Scalar.indexCast v128
  let c112 : Index := 112#32
  ![v136.toNat, 112]
@[reducible] def k0_t26_loop : Scf.Loop 32 :=
  let c0_i32_133 : BitVec 32 := 0#32
  let c75_i32_134 : BitVec 32 := 75#32
  let v75 : BitVec 32 := Scalar.addi c0_i32_133 c75_i32_134
  let c1_i32_135 : BitVec 32 := 1#32
  ⟨c0_i32_133, v75, c1_i32_135⟩
def k0_off37 (k0_t26 : Fin k0_t26_loop.trips) : Fin 1 → Nat :=
  let c181_i32 : BitVec 32 := 181#32
  let c0_i32_133 : BitVec 32 := 0#32
  let c1_i32_135 : BitVec 32 := 1#32
  let arg12 : BitVec 32 := Scf.iv c0_i32_133 c1_i32_135 k0_t26
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c128_i32_262 : BitVec 32 := 128#32
  let v132 : BitVec 32 := Scalar.addi v131 c128_i32_262
  let v133 : Index := Scalar.indexCast v132
  ![v133.toNat]
def k0_off38 (k0_t26 : Fin k0_t26_loop.trips) : Fin 2 → Nat :=
  let c181_i32 : BitVec 32 := 181#32
  let c0_i32_133 : BitVec 32 := 0#32
  let c1_i32_135 : BitVec 32 := 1#32
  let arg12 : BitVec 32 := Scf.iv c0_i32_133 c1_i32_135 k0_t26
  let c1_i32_259 : BitVec 32 := 1#32
  let v127 : BitVec 32 := Scalar.muli arg12 c1_i32_259
  let v128 : BitVec 32 := Scalar.addi c181_i32 v127
  let v136 : Index := Scalar.indexCast v128
  let c128 : Index := 128#32
  ![v136.toNat, 128]
@[reducible] def k0_t27_loop : Scf.Loop 32 :=
  let c0_i32_137 : BitVec 32 := 0#32
  let c75_i32_138 : BitVec 32 := 75#32
  let v76 : BitVec 32 := Scalar.addi c0_i32_137 c75_i32_138
  let c1_i32_139 : BitVec 32 := 1#32
  ⟨c0_i32_137, v76, c1_i32_139⟩
def k0_off39 (k0_t27 : Fin k0_t27_loop.trips) : Fin 1 → Nat :=
  let c181_i32 : BitVec 32 := 181#32
  let c0_i32_137 : BitVec 32 := 0#32
  let c1_i32_139 : BitVec 32 := 1#32
  let arg12 : BitVec 32 := Scf.iv c0_i32_137 c1_i32_139 k0_t27
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c144_i32 : BitVec 32 := 144#32
  let v132 : BitVec 32 := Scalar.addi v131 c144_i32
  let v133 : Index := Scalar.indexCast v132
  ![v133.toNat]
def k0_off40 (k0_t27 : Fin k0_t27_loop.trips) : Fin 2 → Nat :=
  let c181_i32 : BitVec 32 := 181#32
  let c0_i32_137 : BitVec 32 := 0#32
  let c1_i32_139 : BitVec 32 := 1#32
  let arg12 : BitVec 32 := Scf.iv c0_i32_137 c1_i32_139 k0_t27
  let c1_i32_259 : BitVec 32 := 1#32
  let v127 : BitVec 32 := Scalar.muli arg12 c1_i32_259
  let v128 : BitVec 32 := Scalar.addi c181_i32 v127
  let v136 : Index := Scalar.indexCast v128
  let c144 : Index := 144#32
  ![v136.toNat, 144]
@[reducible] def k0_t28_loop : Scf.Loop 32 :=
  let c0_i32_141 : BitVec 32 := 0#32
  let c75_i32_142 : BitVec 32 := 75#32
  let v77 : BitVec 32 := Scalar.addi c0_i32_141 c75_i32_142
  let c1_i32_143 : BitVec 32 := 1#32
  ⟨c0_i32_141, v77, c1_i32_143⟩
def k0_off41 (k0_t28 : Fin k0_t28_loop.trips) : Fin 1 → Nat :=
  let c181_i32 : BitVec 32 := 181#32
  let c0_i32_141 : BitVec 32 := 0#32
  let c1_i32_143 : BitVec 32 := 1#32
  let arg12 : BitVec 32 := Scf.iv c0_i32_141 c1_i32_143 k0_t28
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c160_i32 : BitVec 32 := 160#32
  let v132 : BitVec 32 := Scalar.addi v131 c160_i32
  let v133 : Index := Scalar.indexCast v132
  ![v133.toNat]
def k0_off42 (k0_t28 : Fin k0_t28_loop.trips) : Fin 2 → Nat :=
  let c181_i32 : BitVec 32 := 181#32
  let c0_i32_141 : BitVec 32 := 0#32
  let c1_i32_143 : BitVec 32 := 1#32
  let arg12 : BitVec 32 := Scf.iv c0_i32_141 c1_i32_143 k0_t28
  let c1_i32_259 : BitVec 32 := 1#32
  let v127 : BitVec 32 := Scalar.muli arg12 c1_i32_259
  let v128 : BitVec 32 := Scalar.addi c181_i32 v127
  let v136 : Index := Scalar.indexCast v128
  let c160 : Index := 160#32
  ![v136.toNat, 160]
@[reducible] def k0_t29_loop : Scf.Loop 32 :=
  let c0_i32_145 : BitVec 32 := 0#32
  let c64_i32 : BitVec 32 := 64#32
  let v78 : BitVec 32 := Scalar.addi c0_i32_145 c64_i32
  let c1_i32_146 : BitVec 32 := 1#32
  ⟨c0_i32_145, v78, c1_i32_146⟩
def k0_off43 (k0_t29 : Fin k0_t29_loop.trips) : Fin 1 → Nat :=
  let c192_i32 : BitVec 32 := 192#32
  let c0_i32_145 : BitVec 32 := 0#32
  let c1_i32_146 : BitVec 32 := 1#32
  let arg12 : BitVec 32 := Scf.iv c0_i32_145 c1_i32_146 k0_t29
  let c1_i32_259 : BitVec 32 := 1#32
  let v127 : BitVec 32 := Scalar.muli arg12 c1_i32_259
  let v128 : BitVec 32 := Scalar.addi c192_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c176_i32 : BitVec 32 := 176#32
  let v132 : BitVec 32 := Scalar.addi v131 c176_i32
  let v133 : Index := Scalar.indexCast v132
  ![v133.toNat]
def k0_off44 (k0_t29 : Fin k0_t29_loop.trips) : Fin 2 → Nat :=
  let c192_i32 : BitVec 32 := 192#32
  let c0_i32_145 : BitVec 32 := 0#32
  let c1_i32_146 : BitVec 32 := 1#32
  let arg12 : BitVec 32 := Scf.iv c0_i32_145 c1_i32_146 k0_t29
  let c1_i32_259 : BitVec 32 := 1#32
  let v127 : BitVec 32 := Scalar.muli arg12 c1_i32_259
  let v128 : BitVec 32 := Scalar.addi c192_i32 v127
  let v136 : Index := Scalar.indexCast v128
  let c176 : Index := 176#32
  ![v136.toNat, 176]
@[reducible] def k0_t30_loop : Scf.Loop 32 :=
  let c0_i32_148 : BitVec 32 := 0#32
  let c48_i32 : BitVec 32 := 48#32
  let v79 : BitVec 32 := Scalar.addi c0_i32_148 c48_i32
  let c1_i32_149 : BitVec 32 := 1#32
  ⟨c0_i32_148, v79, c1_i32_149⟩
def k0_off45 (k0_t30 : Fin k0_t30_loop.trips) : Fin 1 → Nat :=
  let c208_i32 : BitVec 32 := 208#32
  let c0_i32_148 : BitVec 32 := 0#32
  let c1_i32_149 : BitVec 32 := 1#32
  let arg12 : BitVec 32 := Scf.iv c0_i32_148 c1_i32_149 k0_t30
  let c1_i32_259 : BitVec 32 := 1#32
  let v127 : BitVec 32 := Scalar.muli arg12 c1_i32_259
  let v128 : BitVec 32 := Scalar.addi c208_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c192_i32 : BitVec 32 := 192#32
  let v132 : BitVec 32 := Scalar.addi v131 c192_i32
  let v133 : Index := Scalar.indexCast v132
  ![v133.toNat]
def k0_off46 (k0_t30 : Fin k0_t30_loop.trips) : Fin 2 → Nat :=
  let c208_i32 : BitVec 32 := 208#32
  let c0_i32_148 : BitVec 32 := 0#32
  let c1_i32_149 : BitVec 32 := 1#32
  let arg12 : BitVec 32 := Scf.iv c0_i32_148 c1_i32_149 k0_t30
  let c1_i32_259 : BitVec 32 := 1#32
  let v127 : BitVec 32 := Scalar.muli arg12 c1_i32_259
  let v128 : BitVec 32 := Scalar.addi c208_i32 v127
  let v136 : Index := Scalar.indexCast v128
  let c192 : Index := 192#32
  ![v136.toNat, 192]
@[reducible] def k0_t31_loop : Scf.Loop 32 :=
  let c0_i32_151 : BitVec 32 := 0#32
  let c32_i32_152 : BitVec 32 := 32#32
  let v80 : BitVec 32 := Scalar.addi c0_i32_151 c32_i32_152
  let c1_i32_153 : BitVec 32 := 1#32
  ⟨c0_i32_151, v80, c1_i32_153⟩
def k0_off47 (k0_t31 : Fin k0_t31_loop.trips) : Fin 1 → Nat :=
  let c224_i32 : BitVec 32 := 224#32
  let c0_i32_151 : BitVec 32 := 0#32
  let c1_i32_153 : BitVec 32 := 1#32
  let arg12 : BitVec 32 := Scf.iv c0_i32_151 c1_i32_153 k0_t31
  let c1_i32_259 : BitVec 32 := 1#32
  let v127 : BitVec 32 := Scalar.muli arg12 c1_i32_259
  let v128 : BitVec 32 := Scalar.addi c224_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c208_i32 : BitVec 32 := 208#32
  let v132 : BitVec 32 := Scalar.addi v131 c208_i32
  let v133 : Index := Scalar.indexCast v132
  ![v133.toNat]
def k0_off48 (k0_t31 : Fin k0_t31_loop.trips) : Fin 2 → Nat :=
  let c224_i32 : BitVec 32 := 224#32
  let c0_i32_151 : BitVec 32 := 0#32
  let c1_i32_153 : BitVec 32 := 1#32
  let arg12 : BitVec 32 := Scf.iv c0_i32_151 c1_i32_153 k0_t31
  let c1_i32_259 : BitVec 32 := 1#32
  let v127 : BitVec 32 := Scalar.muli arg12 c1_i32_259
  let v128 : BitVec 32 := Scalar.addi c224_i32 v127
  let v136 : Index := Scalar.indexCast v128
  let c208 : Index := 208#32
  ![v136.toNat, 208]
@[reducible] def k0_t32_loop : Scf.Loop 32 :=
  let c0_i32_155 : BitVec 32 := 0#32
  let c16_i32 : BitVec 32 := 16#32
  let v81 : BitVec 32 := Scalar.addi c0_i32_155 c16_i32
  let c1_i32_156 : BitVec 32 := 1#32
  ⟨c0_i32_155, v81, c1_i32_156⟩
def k0_off49 (k0_t32 : Fin k0_t32_loop.trips) : Fin 1 → Nat :=
  let c240_i32 : BitVec 32 := 240#32
  let c0_i32_155 : BitVec 32 := 0#32
  let c1_i32_156 : BitVec 32 := 1#32
  let arg12 : BitVec 32 := Scf.iv c0_i32_155 c1_i32_156 k0_t32
  let c1_i32_259 : BitVec 32 := 1#32
  let v127 : BitVec 32 := Scalar.muli arg12 c1_i32_259
  let v128 : BitVec 32 := Scalar.addi c240_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c224_i32 : BitVec 32 := 224#32
  let v132 : BitVec 32 := Scalar.addi v131 c224_i32
  let v133 : Index := Scalar.indexCast v132
  ![v133.toNat]
def k0_off50 (k0_t32 : Fin k0_t32_loop.trips) : Fin 2 → Nat :=
  let c240_i32 : BitVec 32 := 240#32
  let c0_i32_155 : BitVec 32 := 0#32
  let c1_i32_156 : BitVec 32 := 1#32
  let arg12 : BitVec 32 := Scf.iv c0_i32_155 c1_i32_156 k0_t32
  let c1_i32_259 : BitVec 32 := 1#32
  let v127 : BitVec 32 := Scalar.muli arg12 c1_i32_259
  let v128 : BitVec 32 := Scalar.addi c240_i32 v127
  let v136 : Index := Scalar.indexCast v128
  let c224 : Index := 224#32
  ![v136.toNat, 224]
@[reducible] def k0_t33_loop : Scf.Loop 32 :=
  let c0_i32_158 : BitVec 32 := 0#32
  let c75_i32_159 : BitVec 32 := 75#32
  let v82 : BitVec 32 := Scalar.addi c0_i32_158 c75_i32_159
  let c1_i32_160 : BitVec 32 := 1#32
  ⟨c0_i32_158, v82, c1_i32_160⟩
def k0_off51 (k0_t33 : Fin k0_t33_loop.trips) : Fin 1 → Nat :=
  let c181_i32 : BitVec 32 := 181#32
  let c0_i32_158 : BitVec 32 := 0#32
  let c1_i32_160 : BitVec 32 := 1#32
  let arg12 : BitVec 32 := Scf.iv c0_i32_158 c1_i32_160 k0_t33
  let c1_i32_259 : BitVec 32 := 1#32
  let v127 : BitVec 32 := Scalar.muli arg12 c1_i32_259
  let v128 : BitVec 32 := Scalar.addi c181_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c4_i32 : BitVec 32 := 4#32
  let v132 : BitVec 32 := Scalar.shrsi v128 c4_i32
  let c16_i32_262 : BitVec 32 := 16#32
  let v133 : BitVec 32 := Scalar.muli v132 c16_i32_262
  let v136 : BitVec 32 := Scalar.addi v131 v133
  let v137 : Index := Scalar.indexCast v136
  ![v137.toNat]
def k0_off52 (k0_t33 : Fin k0_t33_loop.trips) : Fin 2 → Nat :=
  let c181_i32 : BitVec 32 := 181#32
  let c0_i32_158 : BitVec 32 := 0#32
  let c1_i32_160 : BitVec 32 := 1#32
  let arg12 : BitVec 32 := Scf.iv c0_i32_158 c1_i32_160 k0_t33
  let c1_i32_259 : BitVec 32 := 1#32
  let v127 : BitVec 32 := Scalar.muli arg12 c1_i32_259
  let v128 : BitVec 32 := Scalar.addi c181_i32 v127
  let v151 : Index := Scalar.indexCast v128
  let c4_i32 : BitVec 32 := 4#32
  let v132 : BitVec 32 := Scalar.shrsi v128 c4_i32
  let c16_i32_262 : BitVec 32 := 16#32
  let v133 : BitVec 32 := Scalar.muli v132 c16_i32_262
  let v152 : Index := Scalar.indexCast v133
  ![v151.toNat, v152.toNat]
def k0_cond2 (k0_t17 : Fin k0_t17_loop.trips) : BitVec 1 :=
  let c0_i32_77 : BitVec 32 := 0#32
  let c1_i32_79 : BitVec 32 := 1#32
  let arg10 : BitVec 32 := Scf.iv c0_i32_77 c1_i32_79 k0_t17
  let c0_i32_162 : BitVec 32 := 0#32
  let v83 : BitVec 1 := Scalar.cmpi .sgt arg10 c0_i32_162
  let v84 : BitVec 32 := Scalar.extui v83
  let c0_i32_163 : BitVec 32 := 0#32
  let v85 : BitVec 1 := Scalar.cmpi .ne v84 c0_i32_163
  v85

def k0_off53 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c0_i32_260 : BitVec 32 := 0#32
  ![v63.toNat, 0]
@[reducible] def k0_t34_loop : Scf.Loop 32 :=
  let c0_i32_164 : BitVec 32 := 0#32
  let c53_i32 : BitVec 32 := 53#32
  let v86 : BitVec 32 := Scalar.addi c0_i32_164 c53_i32
  let c1_i32_165 : BitVec 32 := 1#32
  ⟨c0_i32_164, v86, c1_i32_165⟩
def k0_off54 (k0_t34 : Fin k0_t34_loop.trips) : Fin 1 → Nat :=
  let c128_i32_260 : BitVec 32 := 128#32
  let c0_i32_164 : BitVec 32 := 0#32
  let c1_i32_165 : BitVec 32 := 1#32
  let arg12 : BitVec 32 := Scf.iv c0_i32_164 c1_i32_165 k0_t34
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c0_i32_263 : BitVec 32 := 0#32
  let v132 : BitVec 32 := Scalar.addi v131 c0_i32_263
  let v133 : Index := Scalar.indexCast v132
  ![v133.toNat]
def k0_off55 (k0_t34 : Fin k0_t34_loop.trips) : Fin 2 → Nat :=
  let c128_i32_260 : BitVec 32 := 128#32
  let c0_i32_164 : BitVec 32 := 0#32
  let c1_i32_165 : BitVec 32 := 1#32
  let arg12 : BitVec 32 := Scf.iv c0_i32_164 c1_i32_165 k0_t34
  let c1_i32_259 : BitVec 32 := 1#32
  let v127 : BitVec 32 := Scalar.muli arg12 c1_i32_259
  let v128 : BitVec 32 := Scalar.addi c128_i32_260 v127
  let v136 : Index := Scalar.indexCast v128
  let c0 : Index := 0#32
  ![v136.toNat, 0]
@[reducible] def k0_t35_loop : Scf.Loop 32 :=
  let c0_i32_167 : BitVec 32 := 0#32
  let c53_i32_168 : BitVec 32 := 53#32
  let v87 : BitVec 32 := Scalar.addi c0_i32_167 c53_i32_168
  let c1_i32_169 : BitVec 32 := 1#32
  ⟨c0_i32_167, v87, c1_i32_169⟩
def k0_off56 (k0_t35 : Fin k0_t35_loop.trips) : Fin 1 → Nat :=
  let c128_i32_260 : BitVec 32 := 128#32
  let c0_i32_167 : BitVec 32 := 0#32
  let c1_i32_169 : BitVec 32 := 1#32
  let arg12 : BitVec 32 := Scf.iv c0_i32_167 c1_i32_169 k0_t35
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c16_i32_263 : BitVec 32 := 16#32
  let v132 : BitVec 32 := Scalar.addi v131 c16_i32_263
  let v133 : Index := Scalar.indexCast v132
  ![v133.toNat]
def k0_off57 (k0_t35 : Fin k0_t35_loop.trips) : Fin 2 → Nat :=
  let c128_i32_260 : BitVec 32 := 128#32
  let c0_i32_167 : BitVec 32 := 0#32
  let c1_i32_169 : BitVec 32 := 1#32
  let arg12 : BitVec 32 := Scf.iv c0_i32_167 c1_i32_169 k0_t35
  let c1_i32_259 : BitVec 32 := 1#32
  let v127 : BitVec 32 := Scalar.muli arg12 c1_i32_259
  let v128 : BitVec 32 := Scalar.addi c128_i32_260 v127
  let v136 : Index := Scalar.indexCast v128
  let c16 : Index := 16#32
  ![v136.toNat, 16]
@[reducible] def k0_t36_loop : Scf.Loop 32 :=
  let c0_i32_171 : BitVec 32 := 0#32
  let c53_i32_172 : BitVec 32 := 53#32
  let v88 : BitVec 32 := Scalar.addi c0_i32_171 c53_i32_172
  let c1_i32_173 : BitVec 32 := 1#32
  ⟨c0_i32_171, v88, c1_i32_173⟩
def k0_off58 (k0_t36 : Fin k0_t36_loop.trips) : Fin 1 → Nat :=
  let c128_i32_260 : BitVec 32 := 128#32
  let c0_i32_171 : BitVec 32 := 0#32
  let c1_i32_173 : BitVec 32 := 1#32
  let arg12 : BitVec 32 := Scf.iv c0_i32_171 c1_i32_173 k0_t36
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c32_i32_263 : BitVec 32 := 32#32
  let v132 : BitVec 32 := Scalar.addi v131 c32_i32_263
  let v133 : Index := Scalar.indexCast v132
  ![v133.toNat]
def k0_off59 (k0_t36 : Fin k0_t36_loop.trips) : Fin 2 → Nat :=
  let c128_i32_260 : BitVec 32 := 128#32
  let c0_i32_171 : BitVec 32 := 0#32
  let c1_i32_173 : BitVec 32 := 1#32
  let arg12 : BitVec 32 := Scf.iv c0_i32_171 c1_i32_173 k0_t36
  let c1_i32_259 : BitVec 32 := 1#32
  let v127 : BitVec 32 := Scalar.muli arg12 c1_i32_259
  let v128 : BitVec 32 := Scalar.addi c128_i32_260 v127
  let v136 : Index := Scalar.indexCast v128
  let c32 : Index := 32#32
  ![v136.toNat, 32]
@[reducible] def k0_t37_loop : Scf.Loop 32 :=
  let c0_i32_175 : BitVec 32 := 0#32
  let c53_i32_176 : BitVec 32 := 53#32
  let v89 : BitVec 32 := Scalar.addi c0_i32_175 c53_i32_176
  let c1_i32_177 : BitVec 32 := 1#32
  ⟨c0_i32_175, v89, c1_i32_177⟩
def k0_off60 (k0_t37 : Fin k0_t37_loop.trips) : Fin 1 → Nat :=
  let c128_i32_260 : BitVec 32 := 128#32
  let c0_i32_175 : BitVec 32 := 0#32
  let c1_i32_177 : BitVec 32 := 1#32
  let arg12 : BitVec 32 := Scf.iv c0_i32_175 c1_i32_177 k0_t37
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c48_i32_263 : BitVec 32 := 48#32
  let v132 : BitVec 32 := Scalar.addi v131 c48_i32_263
  let v133 : Index := Scalar.indexCast v132
  ![v133.toNat]
def k0_off61 (k0_t37 : Fin k0_t37_loop.trips) : Fin 2 → Nat :=
  let c128_i32_260 : BitVec 32 := 128#32
  let c0_i32_175 : BitVec 32 := 0#32
  let c1_i32_177 : BitVec 32 := 1#32
  let arg12 : BitVec 32 := Scf.iv c0_i32_175 c1_i32_177 k0_t37
  let c1_i32_259 : BitVec 32 := 1#32
  let v127 : BitVec 32 := Scalar.muli arg12 c1_i32_259
  let v128 : BitVec 32 := Scalar.addi c128_i32_260 v127
  let v136 : Index := Scalar.indexCast v128
  let c48 : Index := 48#32
  ![v136.toNat, 48]
@[reducible] def k0_t38_loop : Scf.Loop 32 :=
  let c0_i32_179 : BitVec 32 := 0#32
  let c53_i32_180 : BitVec 32 := 53#32
  let v90 : BitVec 32 := Scalar.addi c0_i32_179 c53_i32_180
  let c1_i32_181 : BitVec 32 := 1#32
  ⟨c0_i32_179, v90, c1_i32_181⟩
def k0_off62 (k0_t38 : Fin k0_t38_loop.trips) : Fin 1 → Nat :=
  let c128_i32_260 : BitVec 32 := 128#32
  let c0_i32_179 : BitVec 32 := 0#32
  let c1_i32_181 : BitVec 32 := 1#32
  let arg12 : BitVec 32 := Scf.iv c0_i32_179 c1_i32_181 k0_t38
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c64_i32_263 : BitVec 32 := 64#32
  let v132 : BitVec 32 := Scalar.addi v131 c64_i32_263
  let v133 : Index := Scalar.indexCast v132
  ![v133.toNat]
def k0_off63 (k0_t38 : Fin k0_t38_loop.trips) : Fin 2 → Nat :=
  let c128_i32_260 : BitVec 32 := 128#32
  let c0_i32_179 : BitVec 32 := 0#32
  let c1_i32_181 : BitVec 32 := 1#32
  let arg12 : BitVec 32 := Scf.iv c0_i32_179 c1_i32_181 k0_t38
  let c1_i32_259 : BitVec 32 := 1#32
  let v127 : BitVec 32 := Scalar.muli arg12 c1_i32_259
  let v128 : BitVec 32 := Scalar.addi c128_i32_260 v127
  let v136 : Index := Scalar.indexCast v128
  let c64 : Index := 64#32
  ![v136.toNat, 64]
@[reducible] def k0_t39_loop : Scf.Loop 32 :=
  let c0_i32_183 : BitVec 32 := 0#32
  let c53_i32_184 : BitVec 32 := 53#32
  let v91 : BitVec 32 := Scalar.addi c0_i32_183 c53_i32_184
  let c1_i32_185 : BitVec 32 := 1#32
  ⟨c0_i32_183, v91, c1_i32_185⟩
def k0_off64 (k0_t39 : Fin k0_t39_loop.trips) : Fin 1 → Nat :=
  let c128_i32_260 : BitVec 32 := 128#32
  let c0_i32_183 : BitVec 32 := 0#32
  let c1_i32_185 : BitVec 32 := 1#32
  let arg12 : BitVec 32 := Scf.iv c0_i32_183 c1_i32_185 k0_t39
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c80_i32_263 : BitVec 32 := 80#32
  let v132 : BitVec 32 := Scalar.addi v131 c80_i32_263
  let v133 : Index := Scalar.indexCast v132
  ![v133.toNat]
def k0_off65 (k0_t39 : Fin k0_t39_loop.trips) : Fin 2 → Nat :=
  let c128_i32_260 : BitVec 32 := 128#32
  let c0_i32_183 : BitVec 32 := 0#32
  let c1_i32_185 : BitVec 32 := 1#32
  let arg12 : BitVec 32 := Scf.iv c0_i32_183 c1_i32_185 k0_t39
  let c1_i32_259 : BitVec 32 := 1#32
  let v127 : BitVec 32 := Scalar.muli arg12 c1_i32_259
  let v128 : BitVec 32 := Scalar.addi c128_i32_260 v127
  let v136 : Index := Scalar.indexCast v128
  let c80 : Index := 80#32
  ![v136.toNat, 80]
@[reducible] def k0_t40_loop : Scf.Loop 32 :=
  let c0_i32_187 : BitVec 32 := 0#32
  let c53_i32_188 : BitVec 32 := 53#32
  let v92 : BitVec 32 := Scalar.addi c0_i32_187 c53_i32_188
  let c1_i32_189 : BitVec 32 := 1#32
  ⟨c0_i32_187, v92, c1_i32_189⟩
def k0_off66 (k0_t40 : Fin k0_t40_loop.trips) : Fin 1 → Nat :=
  let c128_i32_260 : BitVec 32 := 128#32
  let c0_i32_187 : BitVec 32 := 0#32
  let c1_i32_189 : BitVec 32 := 1#32
  let arg12 : BitVec 32 := Scf.iv c0_i32_187 c1_i32_189 k0_t40
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c96_i32_263 : BitVec 32 := 96#32
  let v132 : BitVec 32 := Scalar.addi v131 c96_i32_263
  let v133 : Index := Scalar.indexCast v132
  ![v133.toNat]
def k0_off67 (k0_t40 : Fin k0_t40_loop.trips) : Fin 2 → Nat :=
  let c128_i32_260 : BitVec 32 := 128#32
  let c0_i32_187 : BitVec 32 := 0#32
  let c1_i32_189 : BitVec 32 := 1#32
  let arg12 : BitVec 32 := Scf.iv c0_i32_187 c1_i32_189 k0_t40
  let c1_i32_259 : BitVec 32 := 1#32
  let v127 : BitVec 32 := Scalar.muli arg12 c1_i32_259
  let v128 : BitVec 32 := Scalar.addi c128_i32_260 v127
  let v136 : Index := Scalar.indexCast v128
  let c96 : Index := 96#32
  ![v136.toNat, 96]
@[reducible] def k0_t41_loop : Scf.Loop 32 :=
  let c0_i32_191 : BitVec 32 := 0#32
  let c53_i32_192 : BitVec 32 := 53#32
  let v93 : BitVec 32 := Scalar.addi c0_i32_191 c53_i32_192
  let c1_i32_193 : BitVec 32 := 1#32
  ⟨c0_i32_191, v93, c1_i32_193⟩
def k0_off68 (k0_t41 : Fin k0_t41_loop.trips) : Fin 1 → Nat :=
  let c128_i32_260 : BitVec 32 := 128#32
  let c0_i32_191 : BitVec 32 := 0#32
  let c1_i32_193 : BitVec 32 := 1#32
  let arg12 : BitVec 32 := Scf.iv c0_i32_191 c1_i32_193 k0_t41
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c112_i32_263 : BitVec 32 := 112#32
  let v132 : BitVec 32 := Scalar.addi v131 c112_i32_263
  let v133 : Index := Scalar.indexCast v132
  ![v133.toNat]
def k0_off69 (k0_t41 : Fin k0_t41_loop.trips) : Fin 2 → Nat :=
  let c128_i32_260 : BitVec 32 := 128#32
  let c0_i32_191 : BitVec 32 := 0#32
  let c1_i32_193 : BitVec 32 := 1#32
  let arg12 : BitVec 32 := Scf.iv c0_i32_191 c1_i32_193 k0_t41
  let c1_i32_259 : BitVec 32 := 1#32
  let v127 : BitVec 32 := Scalar.muli arg12 c1_i32_259
  let v128 : BitVec 32 := Scalar.addi c128_i32_260 v127
  let v136 : Index := Scalar.indexCast v128
  let c112 : Index := 112#32
  ![v136.toNat, 112]
@[reducible] def k0_t42_loop : Scf.Loop 32 :=
  let c0_i32_195 : BitVec 32 := 0#32
  let c37_i32 : BitVec 32 := 37#32
  let v94 : BitVec 32 := Scalar.addi c0_i32_195 c37_i32
  let c1_i32_196 : BitVec 32 := 1#32
  ⟨c0_i32_195, v94, c1_i32_196⟩
def k0_off70 (k0_t42 : Fin k0_t42_loop.trips) : Fin 1 → Nat :=
  let c144_i32 : BitVec 32 := 144#32
  let c0_i32_195 : BitVec 32 := 0#32
  let c1_i32_196 : BitVec 32 := 1#32
  let arg12 : BitVec 32 := Scf.iv c0_i32_195 c1_i32_196 k0_t42
  let c1_i32_259 : BitVec 32 := 1#32
  let v127 : BitVec 32 := Scalar.muli arg12 c1_i32_259
  let v128 : BitVec 32 := Scalar.addi c144_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c128_i32_262 : BitVec 32 := 128#32
  let v132 : BitVec 32 := Scalar.addi v131 c128_i32_262
  let v133 : Index := Scalar.indexCast v132
  ![v133.toNat]
def k0_off71 (k0_t42 : Fin k0_t42_loop.trips) : Fin 2 → Nat :=
  let c144_i32 : BitVec 32 := 144#32
  let c0_i32_195 : BitVec 32 := 0#32
  let c1_i32_196 : BitVec 32 := 1#32
  let arg12 : BitVec 32 := Scf.iv c0_i32_195 c1_i32_196 k0_t42
  let c1_i32_259 : BitVec 32 := 1#32
  let v127 : BitVec 32 := Scalar.muli arg12 c1_i32_259
  let v128 : BitVec 32 := Scalar.addi c144_i32 v127
  let v136 : Index := Scalar.indexCast v128
  let c128 : Index := 128#32
  ![v136.toNat, 128]
@[reducible] def k0_t43_loop : Scf.Loop 32 :=
  let c0_i32_198 : BitVec 32 := 0#32
  let c21_i32 : BitVec 32 := 21#32
  let v95 : BitVec 32 := Scalar.addi c0_i32_198 c21_i32
  let c1_i32_199 : BitVec 32 := 1#32
  ⟨c0_i32_198, v95, c1_i32_199⟩
def k0_off72 (k0_t43 : Fin k0_t43_loop.trips) : Fin 1 → Nat :=
  let c160_i32 : BitVec 32 := 160#32
  let c0_i32_198 : BitVec 32 := 0#32
  let c1_i32_199 : BitVec 32 := 1#32
  let arg12 : BitVec 32 := Scf.iv c0_i32_198 c1_i32_199 k0_t43
  let c1_i32_259 : BitVec 32 := 1#32
  let v127 : BitVec 32 := Scalar.muli arg12 c1_i32_259
  let v128 : BitVec 32 := Scalar.addi c160_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c144_i32 : BitVec 32 := 144#32
  let v132 : BitVec 32 := Scalar.addi v131 c144_i32
  let v133 : Index := Scalar.indexCast v132
  ![v133.toNat]
def k0_off73 (k0_t43 : Fin k0_t43_loop.trips) : Fin 2 → Nat :=
  let c160_i32 : BitVec 32 := 160#32
  let c0_i32_198 : BitVec 32 := 0#32
  let c1_i32_199 : BitVec 32 := 1#32
  let arg12 : BitVec 32 := Scf.iv c0_i32_198 c1_i32_199 k0_t43
  let c1_i32_259 : BitVec 32 := 1#32
  let v127 : BitVec 32 := Scalar.muli arg12 c1_i32_259
  let v128 : BitVec 32 := Scalar.addi c160_i32 v127
  let v136 : Index := Scalar.indexCast v128
  let c144 : Index := 144#32
  ![v136.toNat, 144]
@[reducible] def k0_t44_loop : Scf.Loop 32 :=
  let c0_i32_201 : BitVec 32 := 0#32
  let c5_i32 : BitVec 32 := 5#32
  let v96 : BitVec 32 := Scalar.addi c0_i32_201 c5_i32
  let c1_i32_202 : BitVec 32 := 1#32
  ⟨c0_i32_201, v96, c1_i32_202⟩
def k0_off74 (k0_t44 : Fin k0_t44_loop.trips) : Fin 1 → Nat :=
  let c176_i32 : BitVec 32 := 176#32
  let c0_i32_201 : BitVec 32 := 0#32
  let c1_i32_202 : BitVec 32 := 1#32
  let arg12 : BitVec 32 := Scf.iv c0_i32_201 c1_i32_202 k0_t44
  let c1_i32_259 : BitVec 32 := 1#32
  let v127 : BitVec 32 := Scalar.muli arg12 c1_i32_259
  let v128 : BitVec 32 := Scalar.addi c176_i32 v127
  let c1_i32_260 : BitVec 32 := 1#32
  let v129 : BitVec 32 := Scalar.addi v128 c1_i32_260
  let v130 : BitVec 32 := Scalar.muli v128 v129
  let c1_i32_261 : BitVec 32 := 1#32
  let v131 : BitVec 32 := Scalar.shrsi v130 c1_i32_261
  let c160_i32 : BitVec 32 := 160#32
  let v132 : BitVec 32 := Scalar.addi v131 c160_i32
  let v133 : Index := Scalar.indexCast v132
  ![v133.toNat]
def k0_off75 (k0_t44 : Fin k0_t44_loop.trips) : Fin 2 → Nat :=
  let c176_i32 : BitVec 32 := 176#32
  let c0_i32_201 : BitVec 32 := 0#32
  let c1_i32_202 : BitVec 32 := 1#32
  let arg12 : BitVec 32 := Scf.iv c0_i32_201 c1_i32_202 k0_t44
  let c1_i32_259 : BitVec 32 := 1#32
  let v127 : BitVec 32 := Scalar.muli arg12 c1_i32_259
  let v128 : BitVec 32 := Scalar.addi c176_i32 v127
  let v136 : Index := Scalar.indexCast v128
  let c160 : Index := 160#32
  ![v136.toNat, 160]
@[reducible] def k0_t45_loop : Scf.Loop 32 :=
  let c0_i32_204 : BitVec 32 := 0#32
  let c53_i32_205 : BitVec 32 := 53#32
  let v97 : BitVec 32 := Scalar.addi c0_i32_204 c53_i32_205
  let c1_i32_206 : BitVec 32 := 1#32
  ⟨c0_i32_204, v97, c1_i32_206⟩
def k0_off76 (k0_t45 : Fin k0_t45_loop.trips) : Fin 1 → Nat :=
  let c128_i32_260 : BitVec 32 := 128#32
  let c0_i32_204 : BitVec 32 := 0#32
  let c1_i32_206 : BitVec 32 := 1#32
  let arg12 : BitVec 32 := Scf.iv c0_i32_204 c1_i32_206 k0_t45
  let c1_i32_259 : BitVec 32 := 1#32
  let v127 : BitVec 32 := Scalar.muli arg12 c1_i32_259
  let v128 : BitVec 32 := Scalar.addi c128_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c4_i32 : BitVec 32 := 4#32
  let v132 : BitVec 32 := Scalar.shrsi v128 c4_i32
  let c16_i32_263 : BitVec 32 := 16#32
  let v133 : BitVec 32 := Scalar.muli v132 c16_i32_263
  let v136 : BitVec 32 := Scalar.addi v131 v133
  let v137 : Index := Scalar.indexCast v136
  ![v137.toNat]
def k0_off77 (k0_t45 : Fin k0_t45_loop.trips) : Fin 2 → Nat :=
  let c128_i32_260 : BitVec 32 := 128#32
  let c0_i32_204 : BitVec 32 := 0#32
  let c1_i32_206 : BitVec 32 := 1#32
  let arg12 : BitVec 32 := Scf.iv c0_i32_204 c1_i32_206 k0_t45
  let c1_i32_259 : BitVec 32 := 1#32
  let v127 : BitVec 32 := Scalar.muli arg12 c1_i32_259
  let v128 : BitVec 32 := Scalar.addi c128_i32_260 v127
  let v151 : Index := Scalar.indexCast v128
  let c4_i32 : BitVec 32 := 4#32
  let v132 : BitVec 32 := Scalar.shrsi v128 c4_i32
  let c16_i32_263 : BitVec 32 := 16#32
  let v133 : BitVec 32 := Scalar.muli v132 c16_i32_263
  let v152 : Index := Scalar.indexCast v133
  ![v151.toNat, v152.toNat]
def k0_off78 (i : grid0.Coords) (k0_t17 : Fin k0_t17_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c128_i32_210 : BitVec 32 := 128#32
  let c0_i32_211 : BitVec 32 := 0#32
  ![v63.toNat, 128, 0]
def k0_cond3 (k0_t17 : Fin k0_t17_loop.trips) : BitVec 1 :=
  let c0_i32_77 : BitVec 32 := 0#32
  let c1_i32_79 : BitVec 32 := 1#32
  let arg10 : BitVec 32 := Scf.iv c0_i32_77 c1_i32_79 k0_t17
  let c31_i32 : BitVec 32 := 31#32
  let v104 : BitVec 1 := Scalar.cmpi .slt arg10 c31_i32
  let v105 : BitVec 32 := Scalar.extui v104
  let c0_i32_216 : BitVec 32 := 0#32
  let v106 : BitVec 1 := Scalar.cmpi .ne v105 c0_i32_216
  v106

def k0_off79 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c1_i32_259 : BitVec 32 := 1#32
  let v127 : BitVec 32 := Scalar.addi v63 c1_i32_259
  let c16384_i32_261 : BitVec 32 := 16384#32
  ![v127.toNat, 16384]
def k0_cond4 (k0_t17 : Fin k0_t17_loop.trips) : BitVec 1 :=
  let c0_i32_77 : BitVec 32 := 0#32
  let c1_i32_79 : BitVec 32 := 1#32
  let arg10 : BitVec 32 := Scf.iv c0_i32_77 c1_i32_79 k0_t17
  let c0_i32_217 : BitVec 32 := 0#32
  let v107 : BitVec 1 := Scalar.cmpi .sgt arg10 c0_i32_217
  let v108 : BitVec 32 := Scalar.extui v107
  let c0_i32_218 : BitVec 32 := 0#32
  let v109 : BitVec 1 := Scalar.cmpi .ne v108 c0_i32_218
  v109

def k0_off80 (i : grid0.Coords) (k0_t17 : Fin k0_t17_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c1_i32_259 : BitVec 32 := 1#32
  let v127 : BitVec 32 := Scalar.subi v63 c1_i32_259
  let c0_i32_262 : BitVec 32 := 0#32
  let c0_i32_263 : BitVec 32 := 0#32
  ![v127.toNat, 0, 0]
@[reducible] def k0_t46_loop : Scf.Loop 32 :=
  let c0_i32_219 : BitVec 32 := 0#32
  let c112_i32 : BitVec 32 := 112#32
  let v110 : BitVec 32 := Scalar.addi c0_i32_219 c112_i32
  let c1_i32_220 : BitVec 32 := 1#32
  ⟨c0_i32_219, v110, c1_i32_220⟩
def k0_off81 (k0_t46 : Fin k0_t46_loop.trips) : Fin 1 → Nat :=
  let c16_i32_260 : BitVec 32 := 16#32
  let c0_i32_219 : BitVec 32 := 0#32
  let c1_i32_220 : BitVec 32 := 1#32
  let arg12 : BitVec 32 := Scf.iv c0_i32_219 c1_i32_220 k0_t46
  let c1_i32_259 : BitVec 32 := 1#32
  let v127 : BitVec 32 := Scalar.muli arg12 c1_i32_259
  let v128 : BitVec 32 := Scalar.addi c16_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c0_i32_263 : BitVec 32 := 0#32
  let v132 : BitVec 32 := Scalar.addi v131 c0_i32_263
  let v133 : Index := Scalar.indexCast v132
  ![v133.toNat]
def k0_off82 (k0_t46 : Fin k0_t46_loop.trips) : Fin 2 → Nat :=
  let c16_i32_260 : BitVec 32 := 16#32
  let c0_i32_219 : BitVec 32 := 0#32
  let c1_i32_220 : BitVec 32 := 1#32
  let arg12 : BitVec 32 := Scf.iv c0_i32_219 c1_i32_220 k0_t46
  let c1_i32_259 : BitVec 32 := 1#32
  let v127 : BitVec 32 := Scalar.muli arg12 c1_i32_259
  let v128 : BitVec 32 := Scalar.addi c16_i32_260 v127
  let v136 : Index := Scalar.indexCast v128
  let c0 : Index := 0#32
  ![v136.toNat, 0]
@[reducible] def k0_t47_loop : Scf.Loop 32 :=
  let c0_i32_222 : BitVec 32 := 0#32
  let c96_i32 : BitVec 32 := 96#32
  let v111 : BitVec 32 := Scalar.addi c0_i32_222 c96_i32
  let c1_i32_223 : BitVec 32 := 1#32
  ⟨c0_i32_222, v111, c1_i32_223⟩
def k0_off83 (k0_t47 : Fin k0_t47_loop.trips) : Fin 1 → Nat :=
  let c32_i32_260 : BitVec 32 := 32#32
  let c0_i32_222 : BitVec 32 := 0#32
  let c1_i32_223 : BitVec 32 := 1#32
  let arg12 : BitVec 32 := Scf.iv c0_i32_222 c1_i32_223 k0_t47
  let c1_i32_259 : BitVec 32 := 1#32
  let v127 : BitVec 32 := Scalar.muli arg12 c1_i32_259
  let v128 : BitVec 32 := Scalar.addi c32_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c16_i32_263 : BitVec 32 := 16#32
  let v132 : BitVec 32 := Scalar.addi v131 c16_i32_263
  let v133 : Index := Scalar.indexCast v132
  ![v133.toNat]
def k0_off84 (k0_t47 : Fin k0_t47_loop.trips) : Fin 2 → Nat :=
  let c32_i32_260 : BitVec 32 := 32#32
  let c0_i32_222 : BitVec 32 := 0#32
  let c1_i32_223 : BitVec 32 := 1#32
  let arg12 : BitVec 32 := Scf.iv c0_i32_222 c1_i32_223 k0_t47
  let c1_i32_259 : BitVec 32 := 1#32
  let v127 : BitVec 32 := Scalar.muli arg12 c1_i32_259
  let v128 : BitVec 32 := Scalar.addi c32_i32_260 v127
  let v136 : Index := Scalar.indexCast v128
  let c16 : Index := 16#32
  ![v136.toNat, 16]
@[reducible] def k0_t48_loop : Scf.Loop 32 :=
  let c0_i32_225 : BitVec 32 := 0#32
  let c80_i32 : BitVec 32 := 80#32
  let v112 : BitVec 32 := Scalar.addi c0_i32_225 c80_i32
  let c1_i32_226 : BitVec 32 := 1#32
  ⟨c0_i32_225, v112, c1_i32_226⟩
def k0_off85 (k0_t48 : Fin k0_t48_loop.trips) : Fin 1 → Nat :=
  let c48_i32_260 : BitVec 32 := 48#32
  let c0_i32_225 : BitVec 32 := 0#32
  let c1_i32_226 : BitVec 32 := 1#32
  let arg12 : BitVec 32 := Scf.iv c0_i32_225 c1_i32_226 k0_t48
  let c1_i32_259 : BitVec 32 := 1#32
  let v127 : BitVec 32 := Scalar.muli arg12 c1_i32_259
  let v128 : BitVec 32 := Scalar.addi c48_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c32_i32_263 : BitVec 32 := 32#32
  let v132 : BitVec 32 := Scalar.addi v131 c32_i32_263
  let v133 : Index := Scalar.indexCast v132
  ![v133.toNat]
def k0_off86 (k0_t48 : Fin k0_t48_loop.trips) : Fin 2 → Nat :=
  let c48_i32_260 : BitVec 32 := 48#32
  let c0_i32_225 : BitVec 32 := 0#32
  let c1_i32_226 : BitVec 32 := 1#32
  let arg12 : BitVec 32 := Scf.iv c0_i32_225 c1_i32_226 k0_t48
  let c1_i32_259 : BitVec 32 := 1#32
  let v127 : BitVec 32 := Scalar.muli arg12 c1_i32_259
  let v128 : BitVec 32 := Scalar.addi c48_i32_260 v127
  let v136 : Index := Scalar.indexCast v128
  let c32 : Index := 32#32
  ![v136.toNat, 32]
@[reducible] def k0_t49_loop : Scf.Loop 32 :=
  let c0_i32_228 : BitVec 32 := 0#32
  let c64_i32_229 : BitVec 32 := 64#32
  let v113 : BitVec 32 := Scalar.addi c0_i32_228 c64_i32_229
  let c1_i32_230 : BitVec 32 := 1#32
  ⟨c0_i32_228, v113, c1_i32_230⟩
def k0_off87 (k0_t49 : Fin k0_t49_loop.trips) : Fin 1 → Nat :=
  let c64_i32_260 : BitVec 32 := 64#32
  let c0_i32_228 : BitVec 32 := 0#32
  let c1_i32_230 : BitVec 32 := 1#32
  let arg12 : BitVec 32 := Scf.iv c0_i32_228 c1_i32_230 k0_t49
  let c1_i32_259 : BitVec 32 := 1#32
  let v127 : BitVec 32 := Scalar.muli arg12 c1_i32_259
  let v128 : BitVec 32 := Scalar.addi c64_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c48_i32_263 : BitVec 32 := 48#32
  let v132 : BitVec 32 := Scalar.addi v131 c48_i32_263
  let v133 : Index := Scalar.indexCast v132
  ![v133.toNat]
def k0_off88 (k0_t49 : Fin k0_t49_loop.trips) : Fin 2 → Nat :=
  let c64_i32_260 : BitVec 32 := 64#32
  let c0_i32_228 : BitVec 32 := 0#32
  let c1_i32_230 : BitVec 32 := 1#32
  let arg12 : BitVec 32 := Scf.iv c0_i32_228 c1_i32_230 k0_t49
  let c1_i32_259 : BitVec 32 := 1#32
  let v127 : BitVec 32 := Scalar.muli arg12 c1_i32_259
  let v128 : BitVec 32 := Scalar.addi c64_i32_260 v127
  let v136 : Index := Scalar.indexCast v128
  let c48 : Index := 48#32
  ![v136.toNat, 48]
@[reducible] def k0_t50_loop : Scf.Loop 32 :=
  let c0_i32_232 : BitVec 32 := 0#32
  let c48_i32_233 : BitVec 32 := 48#32
  let v114 : BitVec 32 := Scalar.addi c0_i32_232 c48_i32_233
  let c1_i32_234 : BitVec 32 := 1#32
  ⟨c0_i32_232, v114, c1_i32_234⟩
def k0_off89 (k0_t50 : Fin k0_t50_loop.trips) : Fin 1 → Nat :=
  let c80_i32_260 : BitVec 32 := 80#32
  let c0_i32_232 : BitVec 32 := 0#32
  let c1_i32_234 : BitVec 32 := 1#32
  let arg12 : BitVec 32 := Scf.iv c0_i32_232 c1_i32_234 k0_t50
  let c1_i32_259 : BitVec 32 := 1#32
  let v127 : BitVec 32 := Scalar.muli arg12 c1_i32_259
  let v128 : BitVec 32 := Scalar.addi c80_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c64_i32_263 : BitVec 32 := 64#32
  let v132 : BitVec 32 := Scalar.addi v131 c64_i32_263
  let v133 : Index := Scalar.indexCast v132
  ![v133.toNat]
def k0_off90 (k0_t50 : Fin k0_t50_loop.trips) : Fin 2 → Nat :=
  let c80_i32_260 : BitVec 32 := 80#32
  let c0_i32_232 : BitVec 32 := 0#32
  let c1_i32_234 : BitVec 32 := 1#32
  let arg12 : BitVec 32 := Scf.iv c0_i32_232 c1_i32_234 k0_t50
  let c1_i32_259 : BitVec 32 := 1#32
  let v127 : BitVec 32 := Scalar.muli arg12 c1_i32_259
  let v128 : BitVec 32 := Scalar.addi c80_i32_260 v127
  let v136 : Index := Scalar.indexCast v128
  let c64 : Index := 64#32
  ![v136.toNat, 64]
@[reducible] def k0_t51_loop : Scf.Loop 32 :=
  let c0_i32_236 : BitVec 32 := 0#32
  let c32_i32_237 : BitVec 32 := 32#32
  let v115 : BitVec 32 := Scalar.addi c0_i32_236 c32_i32_237
  let c1_i32_238 : BitVec 32 := 1#32
  ⟨c0_i32_236, v115, c1_i32_238⟩
def k0_off91 (k0_t51 : Fin k0_t51_loop.trips) : Fin 1 → Nat :=
  let c96_i32_260 : BitVec 32 := 96#32
  let c0_i32_236 : BitVec 32 := 0#32
  let c1_i32_238 : BitVec 32 := 1#32
  let arg12 : BitVec 32 := Scf.iv c0_i32_236 c1_i32_238 k0_t51
  let c1_i32_259 : BitVec 32 := 1#32
  let v127 : BitVec 32 := Scalar.muli arg12 c1_i32_259
  let v128 : BitVec 32 := Scalar.addi c96_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c80_i32_263 : BitVec 32 := 80#32
  let v132 : BitVec 32 := Scalar.addi v131 c80_i32_263
  let v133 : Index := Scalar.indexCast v132
  ![v133.toNat]
def k0_off92 (k0_t51 : Fin k0_t51_loop.trips) : Fin 2 → Nat :=
  let c96_i32_260 : BitVec 32 := 96#32
  let c0_i32_236 : BitVec 32 := 0#32
  let c1_i32_238 : BitVec 32 := 1#32
  let arg12 : BitVec 32 := Scf.iv c0_i32_236 c1_i32_238 k0_t51
  let c1_i32_259 : BitVec 32 := 1#32
  let v127 : BitVec 32 := Scalar.muli arg12 c1_i32_259
  let v128 : BitVec 32 := Scalar.addi c96_i32_260 v127
  let v136 : Index := Scalar.indexCast v128
  let c80 : Index := 80#32
  ![v136.toNat, 80]
@[reducible] def k0_t52_loop : Scf.Loop 32 :=
  let c0_i32_240 : BitVec 32 := 0#32
  let c16_i32_241 : BitVec 32 := 16#32
  let v116 : BitVec 32 := Scalar.addi c0_i32_240 c16_i32_241
  let c1_i32_242 : BitVec 32 := 1#32
  ⟨c0_i32_240, v116, c1_i32_242⟩
def k0_off93 (k0_t52 : Fin k0_t52_loop.trips) : Fin 1 → Nat :=
  let c112_i32_260 : BitVec 32 := 112#32
  let c0_i32_240 : BitVec 32 := 0#32
  let c1_i32_242 : BitVec 32 := 1#32
  let arg12 : BitVec 32 := Scf.iv c0_i32_240 c1_i32_242 k0_t52
  let c1_i32_259 : BitVec 32 := 1#32
  let v127 : BitVec 32 := Scalar.muli arg12 c1_i32_259
  let v128 : BitVec 32 := Scalar.addi c112_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c96_i32_263 : BitVec 32 := 96#32
  let v132 : BitVec 32 := Scalar.addi v131 c96_i32_263
  let v133 : Index := Scalar.indexCast v132
  ![v133.toNat]
def k0_off94 (k0_t52 : Fin k0_t52_loop.trips) : Fin 2 → Nat :=
  let c112_i32_260 : BitVec 32 := 112#32
  let c0_i32_240 : BitVec 32 := 0#32
  let c1_i32_242 : BitVec 32 := 1#32
  let arg12 : BitVec 32 := Scf.iv c0_i32_240 c1_i32_242 k0_t52
  let c1_i32_259 : BitVec 32 := 1#32
  let v127 : BitVec 32 := Scalar.muli arg12 c1_i32_259
  let v128 : BitVec 32 := Scalar.addi c112_i32_260 v127
  let v136 : Index := Scalar.indexCast v128
  let c96 : Index := 96#32
  ![v136.toNat, 96]
@[reducible] def k0_t53_loop : Scf.Loop 32 :=
  let c0_i32_244 : BitVec 32 := 0#32
  let c128_i32_245 : BitVec 32 := 128#32
  let v117 : BitVec 32 := Scalar.addi c0_i32_244 c128_i32_245
  let c1_i32_246 : BitVec 32 := 1#32
  ⟨c0_i32_244, v117, c1_i32_246⟩
def k0_off95 (k0_t53 : Fin k0_t53_loop.trips) : Fin 1 → Nat :=
  let c0_i32_260 : BitVec 32 := 0#32
  let c0_i32_244 : BitVec 32 := 0#32
  let c1_i32_246 : BitVec 32 := 1#32
  let arg12 : BitVec 32 := Scf.iv c0_i32_244 c1_i32_246 k0_t53
  let c1_i32_259 : BitVec 32 := 1#32
  let v127 : BitVec 32 := Scalar.muli arg12 c1_i32_259
  let v128 : BitVec 32 := Scalar.addi c0_i32_260 v127
  let c1_i32_261 : BitVec 32 := 1#32
  let v129 : BitVec 32 := Scalar.addi v128 c1_i32_261
  let v130 : BitVec 32 := Scalar.muli v128 v129
  let c1_i32_262 : BitVec 32 := 1#32
  let v131 : BitVec 32 := Scalar.shrsi v130 c1_i32_262
  let c4_i32 : BitVec 32 := 4#32
  let v132 : BitVec 32 := Scalar.shrsi v128 c4_i32
  let c16_i32_263 : BitVec 32 := 16#32
  let v133 : BitVec 32 := Scalar.muli v132 c16_i32_263
  let v136 : BitVec 32 := Scalar.addi v131 v133
  let v137 : Index := Scalar.indexCast v136
  ![v137.toNat]
def k0_off96 (k0_t53 : Fin k0_t53_loop.trips) : Fin 2 → Nat :=
  let c0_i32_260 : BitVec 32 := 0#32
  let c0_i32_244 : BitVec 32 := 0#32
  let c1_i32_246 : BitVec 32 := 1#32
  let arg12 : BitVec 32 := Scf.iv c0_i32_244 c1_i32_246 k0_t53
  let c1_i32_259 : BitVec 32 := 1#32
  let v127 : BitVec 32 := Scalar.muli arg12 c1_i32_259
  let v128 : BitVec 32 := Scalar.addi c0_i32_260 v127
  let v151 : Index := Scalar.indexCast v128
  let c4_i32 : BitVec 32 := 4#32
  let v132 : BitVec 32 := Scalar.shrsi v128 c4_i32
  let c16_i32_263 : BitVec 32 := 16#32
  let v133 : BitVec 32 := Scalar.muli v132 c16_i32_263
  let v152 : Index := Scalar.indexCast v133
  ![v151.toNat, v152.toNat]
def k0_off97 (i : grid0.Coords) (k0_t17 : Fin k0_t17_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c0_i32_250 : BitVec 32 := 0#32
  let c0_i32_251 : BitVec 32 := 0#32
  ![v63.toNat, 0, 0]
def k0_cond5 (k0_t17 : Fin k0_t17_loop.trips) : BitVec 1 :=
  let c0_i32_77 : BitVec 32 := 0#32
  let c1_i32_79 : BitVec 32 := 1#32
  let arg10 : BitVec 32 := Scf.iv c0_i32_77 c1_i32_79 k0_t17
  let c31_i32_256 : BitVec 32 := 31#32
  let v124 : BitVec 1 := Scalar.cmpi .slt arg10 c31_i32_256
  let v125 : BitVec 32 := Scalar.extui v124
  let c0_i32_257 : BitVec 32 := 0#32
  let v126 : BitVec 1 := Scalar.cmpi .ne v125 c0_i32_257
  v126

def k0_off98 (i : grid0.Coords) (k0_t17 : Fin k0_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_77 : BitVec 32 := 0#32
  let c1_i32_79 : BitVec 32 := 1#32
  let arg10 : BitVec 32 := Scf.iv c0_i32_77 c1_i32_79 k0_t17
  let v63 : BitVec 32 := Scalar.addi v2 arg10
  let c1_i32_259 : BitVec 32 := 1#32
  let v127 : BitVec 32 := Scalar.addi v63 c1_i32_259
  let c0_i32_261 : BitVec 32 := 0#32
  ![v127.toNat, 0]
def k0_off99 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_81 : BitVec 32 := 32#32
  let v47 : BitVec 32 := Scalar.addi v2 c32_i32_81
  let c1_i32_82 : BitVec 32 := 1#32
  let v48 : BitVec 32 := Scalar.subi v47 c1_i32_82
  let c128_i32_84 : BitVec 32 := 128#32
  let c0_i32_85 : BitVec 32 := 0#32
  ![v48.toNat, 128, 0]
def k0_off100 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_90 : BitVec 32 := 32#32
  let v55 : BitVec 32 := Scalar.addi v2 c32_i32_90
  let c1_i32_91 : BitVec 32 := 1#32
  let v56 : BitVec 32 := Scalar.subi v55 c1_i32_91
  let c0_i32_94 : BitVec 32 := 0#32
  let c0_i32_95 : BitVec 32 := 0#32
  ![v56.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x32896 : Shape := ⟨2, ![1024, 32896]⟩
abbrev S32896 : Shape := ⟨1, ![32896]⟩
abbrev S_ : Shape := ⟨0, ![]⟩
abbrev S1024x256x256 : Shape := ⟨3, ![1024, 256, 256]⟩
abbrev S32896x1 : Shape := ⟨2, ![32896, 1]⟩
abbrev S32896x2 : Shape := ⟨2, ![32896, 2]⟩
abbrev S256 : Shape := ⟨1, ![256]⟩
abbrev S256x1 : Shape := ⟨2, ![256, 1]⟩
abbrev S256x2 : Shape := ⟨2, ![256, 2]⟩
abbrev S1024x256 : Shape := ⟨2, ![1024, 256]⟩

abbrev nBuf : Space → Nat
  | .hbm => 67
  | .vmem => 0
  | .smem => 0
  | _ => 0

abbrev bufTy : (tb : Table) → Fin (tcTables nBuf tb) → BufTy
  | .hbm, ⟨0, _⟩ => ⟨S1024x32896, .f32⟩
  | .hbm, ⟨1, _⟩ => ⟨S32896, .i32⟩
  | .hbm, ⟨2, _⟩ => ⟨S32896, .i32⟩
  | .hbm, ⟨3, _⟩ => ⟨S_, .f32⟩
  | .hbm, ⟨4, _⟩ => ⟨S1024x256x256, .f32⟩
  | .hbm, ⟨5, _⟩ => ⟨S_, .i32⟩
  | .hbm, ⟨6, _⟩ => ⟨S32896, .i32⟩
  | .hbm, ⟨7, _⟩ => ⟨S32896, .i1⟩
  | .hbm, ⟨8, _⟩ => ⟨S_, .i32⟩
  | .hbm, ⟨9, _⟩ => ⟨S32896, .i32⟩
  | .hbm, ⟨10, _⟩ => ⟨S32896, .i32⟩
  | .hbm, ⟨11, _⟩ => ⟨S32896, .i32⟩
  | .hbm, ⟨12, _⟩ => ⟨S_, .i32⟩
  | .hbm, ⟨13, _⟩ => ⟨S32896, .i32⟩
  | .hbm, ⟨14, _⟩ => ⟨S32896, .i1⟩
  | .hbm, ⟨15, _⟩ => ⟨S_, .i32⟩
  | .hbm, ⟨16, _⟩ => ⟨S32896, .i32⟩
  | .hbm, ⟨17, _⟩ => ⟨S32896, .i32⟩
  | .hbm, ⟨18, _⟩ => ⟨S32896, .i32⟩
  | .hbm, ⟨19, _⟩ => ⟨S32896x1, .i32⟩
  | .hbm, ⟨20, _⟩ => ⟨S32896x1, .i32⟩
  | .hbm, ⟨21, _⟩ => ⟨S32896x2, .i32⟩
  | .hbm, ⟨22, _⟩ => ⟨S1024x256x256, .f32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x1, .i32⟩
  | .hbm, ⟨40, _⟩ => ⟨S256x2, .i32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S_, .i32⟩
  | .hbm, ⟨50, _⟩ => ⟨S256, .i32⟩
  | .hbm, ⟨51, _⟩ => ⟨S256, .i1⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S256x1, .i32⟩
  | .hbm, ⟨65, _⟩ => ⟨S256x2, .i32⟩
  | .hbm, ⟨66, _⟩ => ⟨S1024x256x256, .f32⟩
  | _, _ => ⟨S1024x32896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_c_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_c_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_c_11 : Ref sig .tc := ⟨.hbm, 49, rfl⟩
abbrev main_v35 : Ref sig .tc := ⟨.hbm, 50, rfl⟩
abbrev main_v36 : Ref sig .tc := ⟨.hbm, 51, rfl⟩
abbrev main_c_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_13 : Ref sig .tc := ⟨.hbm, 56, rfl⟩
abbrev main_v40 : Ref sig .tc := ⟨.hbm, 57, rfl⟩
abbrev main_v41 : Ref sig .tc := ⟨.hbm, 58, rfl⟩
abbrev main_c_14 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Base.lean ====
/-
  What the run of the kernel is stated over: the program as the launch theorem sees it, the buffers of one vector
  subcore, and the value of the result — row `r`, column `c` of a 256×256 triangle unpacked from a row of 32896 numbers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The subcore and its buffers -/

/-- The SparseCore of the subcore at grid point `L`. -/
abbrev cV (L : grid0.Coords) : Fin τ.nSC := (L 0).castLE hcore0
/-- The subcore, within its SparseCore, at grid point `L`. -/
abbrev jV (L : grid0.Coords) : Fin τ.nSub := (L 1).castLE hsub0
/-- The thread of device `d` at grid point `L`. -/
abbrev thr (d : Dev nD) (L : grid0.Coords) : Thread nD τ := V d (cV L) (jV L)

/-- The packed rows, as a subcore names them. -/
abbrev xV : Memref sig .scVector .hbm S1024x32896 .f32 := Memref.whole main_arg0_scv
/-- The unpacked triangles, as a subcore names them. -/
abbrev oV : Memref sig .scVector .hbm S1024x256x256 .f32 := Memref.whole main_v0_scv
/-- The subcore's triangle under construction. -/
abbrev tV : Memref sig .scVector .vmem S256x256 .f32 := Memref.whole cc0_scratch0
/-- The subcore's packed row. -/
abbrev rV : Memref sig .scVector .vmem S32896 .f32 := Memref.whole cc0_scratch1

abbrev xLoc (d : Dev nD) : Loc nD τ sig := (SparseCore.T d).loc main_arg0
abbrev oLoc (d : Dev nD) : Loc nD τ sig := (SparseCore.T d).loc main_v0
abbrev tLoc (d : Dev nD) (L : grid0.Coords) : Loc nD τ sig := (thr d L).loc cc0_scratch0
abbrev rLoc (d : Dev nD) (L : grid0.Coords) : Loc nD τ sig := (thr d L).loc cc0_scratch1

/-! ## The value -/

section Value

variable [FloatOps F]

/-- The number zero, as the kernel writes it above the diagonal. -/
def zero : F .f32 := Scalar.ofBits .f32 0x00000000#32

/-- What the diagonal holds of the packed number `v`: `|0.5 + v| + 1e-9`. -/
def diag (v : F .f32) : F .f32 :=
  FloatOps.addf (FloatOps.absf (FloatOps.addf (Scalar.ofBits .f32 0x3F000000#32) v)) (Scalar.ofBits .f32 0x3089705F#32)

/-- Where row `r` of the triangle starts in the packed row. -/
def tri (r : ℕ) : ℕ := r * (r + 1) / 2

/-- Row `r`, column `c` of the triangle unpacked from the packed row `g`: the packed number below the diagonal, its
    `diag` on it, zero above it. -/
def cell (g : ℕ → F .f32) (r c : ℕ) : F .f32 :=
  if c < r then g (tri r + c) else if c = r then diag (g (tri r + c)) else zero

/-- Number `k` of packed row `b`. -/
def packed (x : S1024x32896.Idx → F .f32) (b k : ℕ) : F .f32 :=
  if h : b < 1024 ∧ k < 32896 then x (ValueIdx.ix2 ⟨b, h.1⟩ ⟨k, h.2⟩) else zero

/-- The result: triangle `i 0` is packed row `i 0` unpacked. -/
def spec (x : S1024x32896.Idx → F .f32) (i : S1024x256x256.Idx) : F .f32 :=
  cell (packed x (i 0).val) (i 1).val (i 2).val

theorem packed_idx (x : S1024x32896.Idx → F .f32) (i : S1024x32896.Idx) : packed x (i 0).val (i 1).val = x i := by
  have h : (i 0).val < 1024 ∧ (i 1).val < 32896 := ⟨(i 0).isLt, (i 1).isLt⟩
  rw [packed, dif_pos h]
  exact congrArg x (ValueIdx.eq_ix2 i).symm

end Value

end Cert.Proof.Tril

end
-- ==== Proof.Fill.lean ====
/-
  The loops that fill the triangle, sixteen columns of one row per trip: what one trip stores, and what is known of the
  triangle after a whole loop. Every loop of the kernel is an instance of one of these.
-/
module

public import proofs.«01_k».proof.Proof.Base

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

variable (d : Dev nD) (L : grid0.Coords)

/-- The weakest precondition of a program of the subcore at grid point `L`. -/
abbrev wpL {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

/-- The elements `A` of the triangle held, with the value `t r c` at every row `r` and column `c` of `A` that `k` says is
    known. -/
def Known (A : Finset S256x256.Idx) (t : ℕ → ℕ → F .f32) (k : ℕ → ℕ → Prop) : sProp 𝕄 :=
  iprop(∃ f : Buf (Elt F) (tLoc d L), ⌜∀ i : S256x256.Idx, i ∈ A → k (i 0).val (i 1).val → f i = t (i 0).val (i 1).val⌝
    ∗ tLoc d L ↦[A]{fullShare} f)

/-- The elements `B` of the packed row held, holding the row `g`. -/
def Row (B : Finset S32896.Idx) (g : ℕ → F .f32) : sProp 𝕄 :=
  rLoc d L ↦[B]{fullShare} (fun i => g (i 0).val : Buf (Elt F) (rLoc d L))

/-- The contents behind what is known of the triangle. -/
theorem Known.elim {A : Finset S256x256.Idx} {t : ℕ → ℕ → F .f32} {k : ℕ → ℕ → Prop} :
    Known d L A t k ⊢ (iprop(∃ f : Buf (Elt F) (tLoc d L), ⌜∀ i : S256x256.Idx, i ∈ A → k (i 0).val (i 1).val → f i = t (i 0).val (i 1).val⌝
      ∗ tLoc d L ↦[A]{fullShare} f) : sProp 𝕄) := Entails.of_eq rfl

/-- Less may be said of the triangle. -/
theorem Known.mono {A : Finset S256x256.Idx} {t t' : ℕ → ℕ → F .f32} {k k' : ℕ → ℕ → Prop}
    (h : ∀ i ∈ A, k' (i 0).val (i 1).val → k (i 0).val (i 1).val ∧ t (i 0).val (i 1).val = t' (i 0).val (i 1).val) :
    Known d L A t k ⊢ (Known d L A t' k' : sProp 𝕄) := by
  unfold Known
  iintro ⟨%f, %hf, H⟩
  iexists f
  isplitr
  · ipureintro; intro i hi hk; exact (hf i hi (h i hi hk).1).trans (h i hi hk).2
  · iexact H

/-- Sixteen columns of one row of the triangle. -/
abbrev tRect (o : Fin 2 → ℕ) (h : ∀ a, o a + S1x16.size a ≤ S256x256.size a) : Rect S256x256 := Rect.unit (s := S256x256) o S1x16.size h
/-- Sixteen numbers of the packed row. -/
abbrev rRect (o : Fin 1 → ℕ) (h : ∀ a, o a + S16.size a ≤ S32896.size a) : Rect S32896 := Rect.unit (s := S32896) o S16.size h

/-- One trip of a copying loop: sixteen packed numbers loaded, sixteen columns stored. -/
def fillTrip (o5 : Fin 1 → ℕ) (h5 : ∀ a, o5 a + S16.size a ≤ S32896.size a) (o4 : Fin 2 → ℕ)
    (h4 : ∀ a, o4 a + S1x16.size a ≤ S256x256.size a) (pay : Vec F S16 .f32 → FVec F S1x16 .f32) :
    Prog (TpuEff nD τ sig (Elt F) Λ₀ (.scVector (cV L) (jV L))) Unit := do
  let v : Vec F S16 .f32 ← Prog.lift (.load rV (rRect o5 h5).toLoadRect (View.loadsAt_vmem h_S16))
  let _ : Vec F S1x16 .f32 ← Prog.lift (.load tV (tRect o4 h4).toLoadRect (View.loadsAt_vmem h_S1x16))
  Prog.lift (.store tV (tRect o4 h4) (pay v) Finset.univ (View.stores_vmem_bits_univ h_S1x16 rfl) (.inl rfl))
  pure ⟨⟩

/-- One trip of a zeroing loop: sixteen columns stored. -/
def zeroTrip (o4 : Fin 2 → ℕ) (h4 : ∀ a, o4 a + S1x16.size a ≤ S256x256.size a) (pay : FVec F S1x16 .f32) :
    Prog (TpuEff nD τ sig (Elt F) Λ₀ (.scVector (cV L) (jV L))) Unit := do
  let _ : Vec F S1x16 .f32 ← Prog.lift (.load tV (tRect o4 h4).toLoadRect (View.loadsAt_vmem h_S1x16))
  Prog.lift (.store tV (tRect o4 h4) pay Finset.univ (View.stores_vmem_bits_univ h_S1x16 rfl) (.inl rfl))
  pure ⟨⟩

theorem mem_tRect {o h} {i : S256x256.Idx} : i ∈ (tRect o h).set ↔ (i 0).val = o 0 ∧ o 1 ≤ (i 1).val ∧ (i 1).val < o 1 + 16 := by
  rw [Rect.mem_set_unit, Fin.forall_fin_two]
  show (o 0 ≤ (i 0).val ∧ (i 0).val < o 0 + 1) ∧ (o 1 ≤ (i 1).val ∧ (i 1).val < o 1 + 16) ↔ _
  omega

theorem mem_rRect {o h} {i : S32896.Idx} : i ∈ (rRect o h).set ↔ o 0 ≤ (i 0).val ∧ (i 0).val < o 0 + 16 := by
  rw [Rect.mem_set_unit, Fin.forall_fin_one]
  rfl

/-- What a store of sixteen columns leaves at an element of the triangle. -/
theorem write_tRect {o h} (f : Buf (Elt F) (tLoc d L)) (w : FVec F S1x16 .f32) (i : S256x256.Idx) :
    ((tV).access (tRect o h)).write (Elt F) f w Finset.univ i
      = if hi : i ∈ (tRect o h).set then w (ix2 0 ⟨(i 1).val - o 1, by have := mem_tRect.mp hi; omega⟩) else f i := by
  split_ifs with hi
  · have hm := mem_tRect.mp hi
    have e : i = ((tV).access (tRect o h)).emb (ix2 0 ⟨(i 1).val - o 1, by omega⟩) := by
      funext a
      apply Fin.ext
      match a with
      | 0 => show (i 0).val = o 0 + 1 * 0; omega
      | 1 => show (i 1).val = o 1 + 1 * ((i 1).val - o 1); omega
    conv_lhs => rw [e]
    rw [View.write_emb_of_mem _ _ (Finset.mem_univ _)]
    rfl
  · refine View.write_of_not_mem _ _ _ ?_
    rw [View.setOn_univ]
    show i ∉ ((View.whole cc0_scratch0).slice (tRect o h)).set
    rwa [View.set_slice_whole]

variable {d L}

/-- What a trip that stores sixteen columns of one row does to what is known: those columns are known after it. -/
theorem Known.write {A : Finset S256x256.Idx} {t : ℕ → ℕ → F .f32} {k k' : ℕ → ℕ → Prop} {o h} {w : FVec F S1x16 .f32}
    {f : Buf (Elt F) (tLoc d L)}
    (hf : ∀ i : S256x256.Idx, i ∈ A → k (i 0).val (i 1).val → f i = t (i 0).val (i 1).val)
    (hw : ∀ c : Fin 16, w (ix2 0 c) = t (o 0) (o 1 + c.val))
    (hk : ∀ r c, k' r c → k r c ∨ (r = o 0 ∧ o 1 ≤ c ∧ c < o 1 + 16)) :
    (tLoc d L ↦[A]{fullShare} ((tV).access (tRect o h)).write (Elt F) f w Finset.univ) ⊢ (Known d L A t k' : sProp 𝕄) := by
  unfold Known
  iintro H
  iexists _
  isplitr
  swap; · iexact H
  ipureintro
  intro i hi hki
  rw [write_tRect]
  split_ifs with hm
  · rw [hw]
    have := mem_tRect.mp hm
    rw [this.1]
    congr 1
    show o 1 + ((i 1).val - o 1) = _
    omega
  · rcases hk _ _ hki with h' | h'
    · exact hf i hi h'
    · exact absurd (mem_tRect.mpr h') hm

variable (d L)

/-- One trip of a copying loop. -/
theorem fillTrip_wp (o5 : Fin 1 → ℕ) (h5) (o4 : Fin 2 → ℕ) (h4) (pay : Vec F S16 .f32 → FVec F S1x16 .f32)
    {A : Finset S256x256.Idx} {B : Finset S32896.Idx} {t : ℕ → ℕ → F .f32} {g : ℕ → F .f32} {k k' : ℕ → ℕ → Prop}
    (hB : ∀ i : S32896.Idx, o5 0 ≤ (i 0).val → (i 0).val < o5 0 + 16 → i ∈ B)
    (hA : ∀ i : S256x256.Idx, (i 0).val = o4 0 → o4 1 ≤ (i 1).val → (i 1).val < o4 1 + 16 → i ∈ A)
    (hw : ∀ c : Fin 16, pay (fun y => g (o5 0 + (y 0).val)) (ix2 0 c) = t (o4 0) (o4 1 + c.val))
    (hk : ∀ r c, k' r c → k r c ∨ (r = o4 0 ∧ o4 1 ≤ c ∧ c < o4 1 + 16)) :
    iprop(Row d L B g ∗ Known d L A t k) ⊢ wpL d L (fillTrip L o5 h5 o4 h4 pay) fun _ => iprop(Row d L B g ∗ Known d L A t k') := by
  have hB' : ((rV).access (rRect o5 h5)).set ⊆ B := fun i hi => by
    have hi' : i ∈ ((View.whole cc0_scratch1).slice (rRect o5 h5)).set := hi
    rw [View.set_slice_whole] at hi'
    exact hB i (mem_rRect.mp hi').1 (mem_rRect.mp hi').2
  have hA' : ((tV).access (tRect o4 h4)).set ⊆ A := fun i hi => by
    have hi' : i ∈ ((View.whole cc0_scratch0).slice (tRect o4 h4)).set := hi
    rw [View.set_slice_whole] at hi'
    have := mem_tRect.mp hi'
    exact hA i this.1 this.2.1 this.2.2
  unfold Row
  iintro ⟨HR, HT⟩
  ihave HT := (Known.elim d L) $$ HT
  icases HT with ⟨%f, %hf, HT⟩
  unfold fillTrip
  iapply (wp_load_rect 𝒱₀ (thr d L) none Set.univ (m := rV) (r := rRect o5 h5) hB') $$ HR
  iintro HR
  iapply (wp_load_rect 𝒱₀ (thr d L) none Set.univ (m := tV) (r := tRect o4 h4) hA') $$ HT
  iintro HT
  iapply (wp_store 𝒱₀ (thr d L) none Set.univ (m := tV) (r := tRect o4 h4) (Mk := Finset.univ) hA') $$ HT
  iintro HT
  simp only [Prog.bind]
  sl_step
  isplitl [HR]; · iexact HR
  have e : ((rV).access (rRect o5 h5)).read (Elt F) (fun i => g (i 0).val : Buf (Elt F) (rLoc d L)) = fun y => g (o5 0 + (y 0).val) := by
    funext y
    show g (o5 0 + 1 * (y 0).val) = _
    rw [Nat.one_mul]
  iapply (Known.write (k := k) hf (by rw [e]; exact hw) hk) $$ HT

/-- One trip of a zeroing loop. -/
theorem zeroTrip_wp (o4 : Fin 2 → ℕ) (h4) (pay : FVec F S1x16 .f32)
    {A : Finset S256x256.Idx} {t : ℕ → ℕ → F .f32} {k k' : ℕ → ℕ → Prop}
    (hA : ∀ i : S256x256.Idx, (i 0).val = o4 0 → o4 1 ≤ (i 1).val → (i 1).val < o4 1 + 16 → i ∈ A)
    (hw : ∀ c : Fin 16, pay (ix2 0 c) = t (o4 0) (o4 1 + c.val))
    (hk : ∀ r c, k' r c → k r c ∨ (r = o4 0 ∧ o4 1 ≤ c ∧ c < o4 1 + 16)) :
    Known d L A t k ⊢ wpL d L (zeroTrip L o4 h4 pay) fun _ => Known d L A t k' := by
  have hA' : ((tV).access (tRect o4 h4)).set ⊆ A := fun i hi => by
    have hi' : i ∈ ((View.whole cc0_scratch0).slice (tRect o4 h4)).set := hi
    rw [View.set_slice_whole] at hi'
    have := mem_tRect.mp hi'
    exact hA i this.1 this.2.1 this.2.2
  iintro HT
  ihave HT := (Known.elim d L) $$ HT
  icases HT with ⟨%f, %hf, HT⟩
  unfold zeroTrip
  iapply (wp_load_rect 𝒱₀ (thr d L) none Set.univ (m := tV) (r := tRect o4 h4) hA') $$ HT
  iintro HT
  iapply (wp_store 𝒱₀ (thr d L) none Set.univ (m := tV) (r := tRect o4 h4) (Mk := Finset.univ) hA') $$ HT
  iintro HT
  simp only [Prog.bind]
  sl_step
  iapply (Known.write (k := k) hf hw hk) $$ HT

/-! ## Whole loops -/

/-- A copying loop: after it, every column that some trip stores is known. -/
theorem fill_loop (lp : Scf.Loop 32) (hok : lp.OK) (o5 : Fin lp.trips → Fin 1 → ℕ) (h5 : ∀ s a, o5 s a + S16.size a ≤ S32896.size a) (o4 : Fin lp.trips → Fin 2 → ℕ) (h4 : ∀ s a, o4 s a + S1x16.size a ≤ S256x256.size a)
    (pay : Fin lp.trips → Vec F S16 .f32 → FVec F S1x16 .f32)
    {A : Finset S256x256.Idx} {B : Finset S32896.Idx} {t : ℕ → ℕ → F .f32} {g : ℕ → F .f32} {k k' : ℕ → ℕ → Prop}
    (hB : ∀ s, ∀ i : S32896.Idx, o5 s 0 ≤ (i 0).val → (i 0).val < o5 s 0 + 16 → i ∈ B)
    (hA : ∀ s, ∀ i : S256x256.Idx, (i 0).val = o4 s 0 → o4 s 1 ≤ (i 1).val → (i 1).val < o4 s 1 + 16 → i ∈ A)
    (hw : ∀ s, ∀ c : Fin 16, pay s (fun y => g (o5 s 0 + (y 0).val)) (ix2 0 c) = t (o4 s 0) (o4 s 1 + c.val))
    (hk : ∀ r c, k' r c → k r c ∨ ∃ s, r = o4 s 0 ∧ o4 s 1 ≤ c ∧ c < o4 s 1 + 16) :
    iprop(Row d L B g ∗ Known d L A t k)
      ⊢ wpL d L (Scf.Loop.for lp hok ⟨⟩ fun s (_ : Unit) => fillTrip L (o5 s) (h5 s) (o4 s) (h4 s) (pay s))
          fun _ => iprop(Row d L B g ∗ Known d L A t k') := by
  iintro H
  iapply (Scf.wp_for frame (wpE (defs₀ (F := F)) 𝒱₀ (thr d L) none) Set.univ lp.lb lp.ub lp.st hok ⟨⟩
    (fun s (_ : Unit) => fillTrip L (o5 s) (h5 s) (o4 s) (h4 s) (pay s))
    (fun n _ => iprop(Row d L B g ∗ Known d L A t fun r c => k r c ∨ ∃ s, s.val < n ∧ r = o4 s 0 ∧ o4 s 1 ≤ c ∧ c < o4 s 1 + 16))
    (fun s _ => fillTrip_wp d L (o5 s) (h5 s) (o4 s) (h4 s) (pay s) (hB s) (hA s) (hw s) (fun r c h => by
      rcases h with h | ⟨s', hs, h⟩
      · exact .inl (.inl h)
      · rcases Nat.lt_or_ge s'.val s.val with h' | h'
        · exact .inl (.inr ⟨s', h', h⟩)
        · obtain rfl : s' = s := Fin.ext (by omega)
          exact .inr h)))
  isplitl [H]
  · icases H with ⟨HR, HT⟩
    isplitl [HR]; · iexact HR
    iapply (Known.mono d L (t := t) (k := k) (fun i _ h => ⟨h.resolve_right fun ⟨_, h, _⟩ => absurd h (Nat.not_lt_zero _), rfl⟩)) $$ HT
  · iintro %_ ⟨HR, HT⟩
    isplitl [HR]; · iexact HR
    iapply (Known.mono d L (t := t) (k := fun r c => k r c ∨ ∃ s, s.val < lp.trips ∧ r = o4 s 0 ∧ o4 s 1 ≤ c ∧ c < o4 s 1 + 16)
      (fun i _ h => ⟨(hk _ _ h).imp id fun ⟨s, h⟩ => ⟨s, s.isLt, h⟩, rfl⟩)) $$ HT

/-- A zeroing loop: after it, every column that some trip stores is known. -/
theorem zero_loop (lp : Scf.Loop 32) (hok : lp.OK) (o4 : Fin lp.trips → Fin 2 → ℕ) (h4 : ∀ s a, o4 s a + S1x16.size a ≤ S256x256.size a) (pay : FVec F S1x16 .f32)
    {A : Finset S256x256.Idx} {t : ℕ → ℕ → F .f32} {k k' : ℕ → ℕ → Prop}
    (hA : ∀ s, ∀ i : S256x256.Idx, (i 0).val = o4 s 0 → o4 s 1 ≤ (i 1).val → (i 1).val < o4 s 1 + 16 → i ∈ A)
    (hw : ∀ s, ∀ c : Fin 16, pay (ix2 0 c) = t (o4 s 0) (o4 s 1 + c.val))
    (hk : ∀ r c, k' r c → k r c ∨ ∃ s, r = o4 s 0 ∧ o4 s 1 ≤ c ∧ c < o4 s 1 + 16) :
    Known d L A t k
      ⊢ wpL d L (Scf.Loop.for lp hok ⟨⟩ fun s (_ : Unit) => zeroTrip L (o4 s) (h4 s) pay) fun _ => Known d L A t k' := by
  iintro H
  iapply (Scf.wp_for frame (wpE (defs₀ (F := F)) 𝒱₀ (thr d L) none) Set.univ lp.lb lp.ub lp.st hok ⟨⟩
    (fun s (_ : Unit) => zeroTrip L (o4 s) (h4 s) pay)
    (fun n _ => Known d L A t fun r c => k r c ∨ ∃ s, s.val < n ∧ r = o4 s 0 ∧ o4 s 1 ≤ c ∧ c < o4 s 1 + 16)
    (fun s _ => zeroTrip_wp d L (o4 s) (h4 s) pay (hA s) (hw s) (fun r c h => by
      rcases h with h | ⟨s', hs, h⟩
      · exact .inl (.inl h)
      · rcases Nat.lt_or_ge s'.val s.val with h' | h'
        · exact .inl (.inr ⟨s', h', h⟩)
        · obtain rfl : s' = s := Fin.ext (by omega)
          exact .inr h)))
  isplitl [H]
  · iapply (Known.mono d L (t := t) (k := k) (fun i _ h => ⟨h.resolve_right fun ⟨_, h, _⟩ => absurd h (Nat.not_lt_zero _), rfl⟩)) $$ H
  · iintro %_ HT
    iapply (Known.mono d L (t := t) (k := fun r c => k r c ∨ ∃ s, s.val < lp.trips ∧ r = o4 s 0 ∧ o4 s 1 ≤ c ∧ c < o4 s 1 + 16)
      (fun i _ h => ⟨(hk _ _ h).imp id fun ⟨s, h⟩ => ⟨s, s.isLt, h⟩, rfl⟩)) $$ HT

/-! ## The kernel's loops -/

theorem tri_succ (r : ℕ) : tri (r + 1) = tri r + r + 1 := by
  unfold tri
  have h : (r + 1) * (r + 1 + 1) = r * (r + 1) + 2 * (r + 1) := by ring
  rw [h]
  omega

theorem tri_mono {r r' : ℕ} (h : r ≤ r') : tri r ≤ tri r' := by
  induction h with
  | refl => exact Nat.le_refl _
  | step _ ih => rw [tri_succ]; omega

theorem tri_lt {r r' : ℕ} (h : r < r') : tri r + r + 1 ≤ tri r' := by
  rw [← tri_succ]; exact tri_mono h

/-- What is known of the triangle while rows `r0 ≤ r < r1` are being unpacked, their columns below `16 j` done: the blocks
    above the diagonal blocks, the rows from `r1` on, and of the rows from `r0` on the columns below `16 j` and below the
    diagonal block. -/
def Part (r0 r1 j r c : ℕ) : Prop := 16 * (r / 16) + 16 ≤ c ∨ r1 ≤ r ∨ (r0 ≤ r ∧ c < 16 * j ∧ c < 16 * (r / 16))

/-- A loop that copies columns `16 j` to `16 j + 16` of rows `lo ≤ r < r1`. -/
theorem copy_loop (lp : Scf.Loop 32) (hok : lp.OK) (o5 : Fin lp.trips → Fin 1 → ℕ) (h5 : ∀ s a, o5 s a + S16.size a ≤ S32896.size a) (o4 : Fin lp.trips → Fin 2 → ℕ) (h4 : ∀ s a, o4 s a + S1x16.size a ≤ S256x256.size a)
    (pay : Vec F S16 .f32 → FVec F S1x16 .f32) (r0 r1 j lo : ℕ)
    (hlo : lo ≤ max (16 * j + 16) r0) (hlo' : max (16 * j + 16) r0 ≤ lo) (htr : lp.trips = r1 - lo)
    (ho5 : ∀ s, o5 s 0 = tri (s.val + lo) + 16 * j) (ho4 : ∀ s, o4 s = ![s.val + lo, 16 * j])
    (hp : ∀ v c, pay v (ix2 0 c) = v (ix1 c))
    {A : Finset S256x256.Idx} {B : Finset S32896.Idx} {g : ℕ → F .f32}
    (hB : ∀ i : S32896.Idx, tri r0 ≤ (i 0).val → (i 0).val < tri r1 + 16 → i ∈ B)
    (hA : ∀ i : S256x256.Idx, r0 ≤ (i 0).val → (i 0).val < r1 → i ∈ A) :
    iprop(Row d L B g ∗ Known d L A (cell g) (Part r0 r1 j))
      ⊢ wpL d L (Scf.Loop.for lp hok ⟨⟩ fun s (_ : Unit) => fillTrip L (o5 s) (h5 s) (o4 s) (h4 s) pay)
          fun _ => iprop(Row d L B g ∗ Known d L A (cell g) (Part r0 r1 (j + 1))) := by
  refine fill_loop d L lp hok o5 h5 o4 h4 (fun _ => pay) ?_ ?_ ?_ ?_
  · intro s i h h'
    rw [ho5] at h h'
    have := s.isLt
    have h1 := tri_mono (show r0 ≤ s.val + lo by omega)
    have h2 := tri_lt (show s.val + lo < r1 by omega)
    exact hB i (by omega) (by omega)
  · intro s i h _ _
    rw [ho4] at h
    have h : (i 0).val = s.val + lo := h
    have := s.isLt
    exact hA i (by omega) (by omega)
  · intro s c
    rw [hp, ho5, ho4]
    show g (tri (s.val + lo) + 16 * j + c.val) = cell g (s.val + lo) (16 * j + c.val)
    have := c.isLt
    rw [cell, if_pos (by omega), Nat.add_assoc]
  · rintro r c (h | h | ⟨h, h', h''⟩)
    · exact .inl (.inl h)
    · exact .inl (.inr (.inl h))
    · by_cases hr : r1 ≤ r
      · exact .inl (.inr (.inl hr))
      by_cases hc : c < 16 * j
      · exact .inl (.inr (.inr ⟨h, hc, h''⟩))
      · refine .inr ⟨⟨r - lo, by omega⟩, ?_⟩
        rw [ho4]
        show r = r - lo + lo ∧ 16 * j ≤ c ∧ c < 16 * j + 16
        omega

/-- The loop that fills the diagonal blocks of rows `r0 ≤ r < r1`: the rows from `r0` on are known after it. -/
theorem diag_loop (lp : Scf.Loop 32) (hok : lp.OK) (o5 : Fin lp.trips → Fin 1 → ℕ) (h5 : ∀ s a, o5 s a + S16.size a ≤ S32896.size a) (o4 : Fin lp.trips → Fin 2 → ℕ) (h4 : ∀ s a, o4 s a + S1x16.size a ≤ S256x256.size a)
    (pay : Fin lp.trips → Vec F S16 .f32 → FVec F S1x16 .f32) (r0 r1 j : ℕ)
    (hj : r1 ≤ 16 * j + 16) (htr : lp.trips = r1 - r0)
    (ho5 : ∀ s, o5 s 0 = tri (s.val + r0) + 16 * ((s.val + r0) / 16))
    (ho4 : ∀ s, o4 s 0 = s.val + r0 ∧ o4 s 1 = 16 * ((s.val + r0) / 16))
    (hp : ∀ s v (c : Fin 16), pay s v (ix2 0 c) = if 16 * ((s.val + r0) / 16) + c.val < s.val + r0 then v (ix1 c)
      else if 16 * ((s.val + r0) / 16) + c.val = s.val + r0 then diag (v (ix1 c)) else zero)
    {A : Finset S256x256.Idx} {B : Finset S32896.Idx} {g : ℕ → F .f32}
    (hB : ∀ i : S32896.Idx, tri r0 ≤ (i 0).val → (i 0).val < tri r1 + 16 → i ∈ B)
    (hA : ∀ i : S256x256.Idx, r0 ≤ (i 0).val → (i 0).val < r1 → i ∈ A) :
    iprop(Row d L B g ∗ Known d L A (cell g) (Part r0 r1 j))
      ⊢ wpL d L (Scf.Loop.for lp hok ⟨⟩ fun s (_ : Unit) => fillTrip L (o5 s) (h5 s) (o4 s) (h4 s) (pay s))
          fun _ => iprop(Row d L B g ∗ Known d L A (cell g) (fun r c => 16 * (r / 16) + 16 ≤ c ∨ r0 ≤ r)) := by
  refine fill_loop d L lp hok o5 h5 o4 h4 pay ?_ ?_ ?_ ?_
  · intro s i h h'
    rw [ho5] at h h'
    have := s.isLt
    have h1 := tri_mono (show r0 ≤ s.val + r0 by omega)
    have h2 := tri_lt (show s.val + r0 < r1 by omega)
    exact hB i (by omega) (by omega)
  · intro s i h _ _
    rw [(ho4 s).1] at h
    have := s.isLt
    exact hA i (by omega) (by omega)
  · intro s c
    rw [hp, ho5, (ho4 s).1, (ho4 s).2]
    show (if _ then g (tri (s.val + r0) + 16 * ((s.val + r0) / 16) + c.val) else if _ then diag (g (tri (s.val + r0) + 16 * ((s.val + r0) / 16) + c.val)) else zero) = _
    rw [cell, Nat.add_assoc]
  · rintro r c (h | h)
    · exact .inl (.inl h)
    · by_cases hr : r1 ≤ r
      · exact .inl (.inr (.inl hr))
      by_cases hz : 16 * (r / 16) + 16 ≤ c
      · exact .inl (.inl hz)
      by_cases hc : c < 16 * (r / 16)
      · exact .inl (.inr (.inr ⟨h, by omega, hc⟩))
      · refine .inr ⟨⟨r - r0, by omega⟩, ?_⟩
        rw [(ho4 _).1, (ho4 _).2]
        show r = r - r0 + r0 ∧ 16 * ((r - r0 + r0) / 16) ≤ c ∧ c < 16 * ((r - r0 + r0) / 16) + 16
        rw [Nat.sub_add_cancel h]
        omega

/-- A loop that zeroes columns `16 j` to `16 j + 16` of every row. -/
theorem zero_cols (lp : Scf.Loop 32) (hok : lp.OK) (o4 : Fin lp.trips → Fin 2 → ℕ) (h4 : ∀ s a, o4 s a + S1x16.size a ≤ S256x256.size a) (pay : FVec F S1x16 .f32) (j : ℕ)
    (htr : lp.trips = 256) (ho4 : ∀ s, o4 s = ![s.val, 16 * j]) (hp : ∀ c : Fin 16, pay (ix2 0 c) = zero) :
    Known d L Finset.univ (fun _ _ => (zero : F .f32)) (fun r c => r < 256 ∧ c < 16 * j)
      ⊢ wpL d L (Scf.Loop.for lp hok ⟨⟩ fun s (_ : Unit) => zeroTrip L (o4 s) (h4 s) pay)
          fun _ => Known d L Finset.univ (fun _ _ => (zero : F .f32)) (fun r c => r < 256 ∧ c < 16 * (j + 1)) := by
  refine zero_loop d L lp hok o4 h4 pay (fun _ _ _ _ _ => Finset.mem_univ _) (fun _ c => hp c) ?_
  rintro r c ⟨hr, hc⟩
  by_cases hc' : c < 16 * j
  · exact .inl ⟨hr, hc'⟩
  · refine .inr ⟨⟨r, by omega⟩, ?_⟩
    rw [ho4]
    show r = r ∧ 16 * j ≤ c ∧ c < 16 * j + 16
    omega

end Cert.Proof.Tril

end
-- ==== Proof.Pay.lean ====
/-
  What the kernel's stores hold: the sixteen numbers a copying loop moves, the sixteen of a diagonal block, and zeros.
-/
module

public import proofs.«01_k».proof.Proof.Fill

@[expose] public section

noncomputable section

namespace Cert.Proof.Tril

open Cert.KernelIdeal Cert.KernelIdeal.Gen
open Idealize.ShloMosaic
open Idealize.ShloMosaic.ValueIdx (ix1 ix2 eq_ix1 eq_ix2 shapeCast_a_1a_apply)

variable {F : FTy → Type} [FloatOps F]

/-- The lanes' numbers. -/
abbrev lanes : IVec S16 32 := iota .scVector S16 32 [0] iota_S16_d0_w32_scVector

/-- A copying loop stores what it loaded. -/
theorem copy_pay (v : Vec F S16 .f32) (c : Fin 16) :
    shapeCast S1x16 (shapeCast S16 v shapeCasts_S16_S16) shapeCasts_S16_S1x16 (ix2 0 c) = v (ix1 c) := by
  rw [shapeCast_self]
  exact shapeCast_a_1a_apply v _ 0 c

/-- A zeroing loop stores zeros. -/
theorem zero_pay (c : Fin 16) : shapeCast S1x16 (k0_pay34 (F := F)) shapeCasts_S16_S1x16 (ix2 0 c) = zero :=
  shapeCast_a_1a_apply (k0_pay34 (F := F)) _ 0 c

/-- The sixteen numbers of the diagonal block of row `w`, from the sixteen packed numbers `v` it covers. -/
def diagPay (w : BitVec 32) (v : Vec F S16 .f32) : FVec F S1x16 .f32 :=
  shapeCast S1x16 (select (cmpi .slt (addi (broadcast S16 (Scalar.muli (Scalar.shrsi w 4#32) 16#32)) lanes) (broadcast S16 w))
    (shapeCast S16 v shapeCasts_S16_S16)
    (select (cmpi .eq (addi (broadcast S16 (Scalar.muli (Scalar.shrsi w 4#32) 16#32)) lanes) (broadcast S16 w))
      (addf (absf (addf (broadcast S16 (Scalar.ofBits .f32 0x3F000000#32)) (shapeCast S16 v shapeCasts_S16_S16)))
        (broadcast S16 (Scalar.ofBits .f32 0x3089705F#32)))
      (k0_pay34 (F := F)))) shapeCasts_S16_S1x16

/-- The two comparisons of a diagonal block's column with its row. -/
theorem diag_cmp : ∀ (R : Fin 256) (c : Fin 16),
    (cmpi .slt (addi (broadcast S16 (Scalar.muli (Scalar.shrsi (BitVec.ofNat 32 R.val) 4#32) 16#32)) lanes) (broadcast S16 (BitVec.ofNat 32 R.val)) (ix1 c)
        = if 16 * (R.val / 16) + c.val < R.val then 1#1 else 0#1)
      ∧ (cmpi .eq (addi (broadcast S16 (Scalar.muli (Scalar.shrsi (BitVec.ofNat 32 R.val) 4#32) 16#32)) lanes) (broadcast S16 (BitVec.ofNat 32 R.val)) (ix1 c)
        = if 16 * (R.val / 16) + c.val = R.val then 1#1 else 0#1) := by decide +kernel

/-- A diagonal block holds the packed numbers below the diagonal, `diag` of the packed number on it, zeros above it. -/
theorem diag_pay (w : BitVec 32) (R : ℕ) (hw : w = BitVec.ofNat 32 R) (hR : R < 256) (v : Vec F S16 .f32) (c : Fin 16) :
    diagPay w v (ix2 0 c) = if 16 * (R / 16) + c.val < R then v (ix1 c)
      else if 16 * (R / 16) + c.val = R then diag (v (ix1 c)) else zero := by
  subst hw
  obtain ⟨h1, h2⟩ := diag_cmp ⟨R, hR⟩ c
  refine (shapeCast_a_1a_apply _ _ 0 c).trans ?_
  rw [shapeCast_self]
  show Scalar.select _ _ (Scalar.select _ _ _) = _
  rw [h1, h2]
  dsimp only
  split_ifs <;> rfl

end Cert.Proof.Tril

end
-- ==== Proof.Chan.lean ====
/-
  The kernel's transfers: a part of a packed row arriving in the subcore's memory, a half of the triangle leaving it. For
  each the state while it is under way, what starting one takes, and what waiting for one gives back.
-/
module

public import proofs.«01_k».proof.Proof.Fill

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 eq_ix1 eq_ix2 eq_ix3)

variable {F : FTy → Type} [FloatOps F]

local notation "𝕄" => MT nD τ sig (HIx 1) (Elt F) ℕ UU ℕ

variable (d : Dev nD) (L : grid0.Coords)

abbrev EC : UEmb Counters 𝕄 := countersEmb

/-- What the subcore owes throughout: the debts `O`, the waits it has made beyond `W` being of no transfer that is anyone
    else's; and that it may wait on its own transfers while owing them. -/
def Owing (O : CellTallies nD τ sig (HIx 1)) (W : Waits sig (HIx 1)) : sProp 𝕄 :=
  iprop(Transfers.MayWaits (thr d L) (none : HIx 1) O
    ∗ ∃ W' : Waits sig (HIx 1), ⌜∀ p ∈ W', p ∈ W ∨ p.2 = none⌝ ∗ owes (thr d L) O W')

/-- Waiting for a transfer of the subcore's own that is under way gives what it delivers. -/
theorem wait_flight {sm : DmaSem sig} {N : ℕ} {R : sProp 𝕄} {O : CellTallies nD τ sig (HIx 1)} {W : Waits sig (HIx 1)}
    {sp sp' : Space} {s s' : Shape} {e e' : EltTy} {src : Memref sig .scVector sp' s' e'} {κ : Kind} {dst : Memref sig κ sp s e}
    {h1 : src.view.WordExact} {h2 : dst.view.WordExact} (hN : dst.view.dmaCredit = N) :
    iprop(Transfers.Flight EC (thr d L) (.dma sm) (none : HIx 1) N R ∗ Owing d L O W)
      ⊢ wpL (F := F) d L (Prog.lift (.waitDma2 sm src dst h1 h2)) fun _ => iprop(R ∗ semVal (thr d L, .dma sm) 0 ∗ Owing d L O W) := by
  unfold Owing
  iintro ⟨HF, #Hmw, %W', %hW, HO⟩
  iapply (Transfers.wp_waitLocalO EC 𝒱₀ (thr d L) none (none : HIx 1) hN) $$ [HF HO]
  · isplitl [HF]; · iexact HF
    isplitl [HO]; · iexact HO
    iapply (Transfers.MayWaits.elim (SemLoc.dma sm)) $$ Hmw
  iintro ⟨HR, Hs, HO⟩
  sl_step
  isplitl [HR]; · iexact HR
  isplitl [Hs]; · iexact Hs
  isplitr; · iexact Hmw
  iexists _
  isplitr
  swap; · iexact HO
  ipureintro
  intro p hp
  rcases Finset.mem_insert.mp hp with rfl | hp
  · exact .inr rfl
  · exact hW p hp

/-! ## A part of a packed row arriving -/

/-- The elements `B` of the subcore's packed row held, holding anything. -/
def Junk (B : Finset S32896.Idx) : sProp 𝕄 := iprop(∃ f : Buf (Elt F) (rLoc d L), rLoc d L ↦[B]{fullShare} f)

theorem Row.junk {B : Finset S32896.Idx} {g : ℕ → F .f32} : Row d L B g ⊢ (Junk d L B : sProp 𝕄) := by
  unfold Row Junk
  iintro H
  iexists _
  iexact H

/-- The part `B` of packed row `β` on its way to the subcore's memory, with the rest of the share `q` of the packed rows. -/
def FlightIn (sm : DmaSem sig) (N : ℕ) (q : PosShare TreeShare) (x : Buf (Elt F) (xLoc d)) (B : Finset S32896.Idx) (β : ℕ) : sProp 𝕄 :=
  iprop(∃ Sx : Finset S1024x32896.Idx, (xLoc d ↦[Finset.univ \ Sx]{q} x)
    ∗ Transfers.Flight EC (thr d L) (.dma sm) (none : HIx 1) N iprop(Row d L B (packed x β) ∗ xLoc d ↦[Sx]{q} x))

theorem start_in (n : ℕ) (hn : 0 < n) {q : PosShare TreeShare} {x : Buf (Elt F) (xLoc d)} (β o : ℕ)
    (os : Fin 2 → ℕ) (hs : ∀ a, os a + (⟨2, ![1, n]⟩ : Shape).size a ≤ S1024x32896.size a) (hos : os = ![β, o])
    (od : Fin 1 → ℕ) (hd : ∀ a, od a + (⟨1, ![n]⟩ : Shape).size a ≤ S32896.size a) (hod : od = ![o])
    (sq : (⟨2, ![1, n]⟩ : Shape).Squeezes ⟨1, ![n]⟩) {sm : DmaSem sig} {N : ℕ}
    {B : Finset S32896.Idx} (hB : ∀ i : S32896.Idx, i ∈ B ↔ o ≤ (i 0).val ∧ (i 0).val < o + n)
    {h1 h2 h3} (hN : (rV.slice (Rect.unit (s := S32896) od (⟨1, ![n]⟩ : Shape).size hd) (fun _ => rfl)).view.dmaCredit = N) :
    iprop(Junk d L B ∗ (xLoc d ↦[Finset.univ]{q} x) ∗ semVal (thr d L, .dma sm) 0)
      ⊢ wpL (F := F) d L (Prog.lift (.enqueueDma ((xV.slice (Rect.unit (s := S1024x32896) os (⟨2, ![1, n]⟩ : Shape).size hs) (fun _ => rfl)).squeeze ⟨1, ![n]⟩ sq)
          (.here (rV.slice (Rect.unit (s := S32896) od (⟨1, ![n]⟩ : Shape).size hd) (fun _ => rfl))) (.dma sm) h1 h2 h3))
          fun _ => FlightIn d L sm N q x B β := by
  subst hos hod
  have hsz : 0 < (⟨1, ![n]⟩ : Shape).numel := by
    show 0 < ∏ a : Fin 1, (![n] : Fin 1 → ℕ) a
    rw [Fin.prod_univ_one]
    exact hn
  set src := ((xV.slice (Rect.unit (s := S1024x32896) ![β, o] (⟨2, ![1, n]⟩ : Shape).size hs) (fun _ => rfl)).squeeze ⟨1, ![n]⟩ sq) with hsrc
  set dst := (rV.slice (Rect.unit (s := S32896) ![o] (⟨1, ![n]⟩ : Shape).size hd) (fun _ => rfl)) with hdst
  have hset : dst.view.set = B := by
    ext i
    refine Iff.trans ?_ (hB i).symm
    show i ∈ ((View.whole cc0_scratch1).slice (Rect.unit (s := S32896) ![o] (⟨1, ![n]⟩ : Shape).size hd)).set ↔ _
    rw [View.set_slice_whole, Rect.mem_set_unit]
    exact ⟨fun h => h 0, fun h a => match a with | ⟨0, _⟩ => h⟩
  have hw : ∀ f : Buf (Elt F) (rLoc d L), ∀ i ∈ B,
      (dst.view.write (Elt F) f ((ReadAs.same (Val := Elt F)).apply (src.view.read (Elt F) x)) Finset.univ) i = packed x β (i 0).val := by
    intro f i hi
    rw [← hset] at hi
    obtain ⟨y, -, rfl⟩ := Finset.mem_map.mp hi
    rw [View.write_emb_of_mem _ _ (Finset.mem_univ _)]
    show x (src.view.emb y) = _
    rw [← packed_idx x (src.view.emb y)]
    have e : ∀ y : (⟨1, ![n]⟩ : Shape).Idx, Shape.reshapeEquiv sq.numel_eq y = ix2 (⟨0, Nat.one_pos⟩ : Fin 1) (y 0) := by
      intro y
      refine Shape.reshapeEquiv_eq_of_rowMajor _ ?_
      refine (Shape.rowMajor_val_two _).trans (Eq.trans ?_ (Shape.rowMajor_val_one _).symm)
      show 0 * n + (y 0).val = (y 0).val
      omega
    have e0 : (src.view.emb y 0).val = β := by
      show β + 1 * ((Shape.reshapeEquiv sq.numel_eq y) 0).val = β
      rw [e]; show β + 1 * 0 = β; omega
    have e1 : (src.view.emb y 1).val = (dst.view.emb y 0).val := by
      show o + 1 * ((Shape.reshapeEquiv sq.numel_eq y) 1).val = o + 1 * (y 0).val
      rw [e]; rfl
    rw [e0, e1]
  unfold Junk
  iintro ⟨⟨%f, HB⟩, HX, Hs⟩
  ihave HX := (pointsTo_split_subset (Finset.subset_univ src.view.set)).1 $$ HX
  icases HX with ⟨HX, HXr⟩
  iapply (Transfers.wp_dmaLocal EC 𝒱₀ (thr d L) none (src := src) (dst := dst) (sm := .dma sm) (fs := x) (fd := f) (q := q) (none : HIx 1) N hN
    (hN ▸ View.dmaCredit_pos _ hsz) (Finset.Subset.refl _)) $$ [HB HX Hs]
  · isplitl [HX]; · iexact HX
    rw [hset]
    isplitl [HB]; · iexact HB
    iexact Hs
  iintro HF
  sl_step
  unfold FlightIn
  iexists src.view.set
  isplitl [HXr]; · iexact HXr
  iapply (Transfers.Flight_mono EC (thr d L) (BIClass.sep_mono (by
    rw [hset]
    unfold Row
    exact Entails.of_eq (pointsTo_congr (hw f))) (Entails.of_eq rfl))) $$ HF

theorem wait_in {sm : DmaSem sig} {N : ℕ} {q : PosShare TreeShare} {x : Buf (Elt F) (xLoc d)} {B : Finset S32896.Idx} {β : ℕ}
    {O : CellTallies nD τ sig (HIx 1)} {W : Waits sig (HIx 1)}
    {sp sp' : Space} {s s' : Shape} {e e' : EltTy} {src : Memref sig .scVector sp' s' e'} {κ : Kind} {dst : Memref sig κ sp s e}
    {h1 : src.view.WordExact} {h2 : dst.view.WordExact} (hN : dst.view.dmaCredit = N) :
    iprop(FlightIn d L sm N q x B β ∗ Owing d L O W)
      ⊢ wpL (F := F) d L (Prog.lift (.waitDma2 sm src dst h1 h2)) fun _ =>
          iprop(Row d L B (packed x β) ∗ ((xLoc d ↦[Finset.univ]{q} x) ∗ semVal (thr d L, .dma sm) 0) ∗ Owing d L O W) := by
  unfold FlightIn
  iintro ⟨⟨%Sx, HX, HF⟩, HO⟩
  iapply (wp_wand frame (wpE (defs₀ (F := F)) 𝒱₀ (thr d L) none) Set.univ) $$ [HF HO]
  · iapply (wait_flight d L hN) $$ [HF HO]
    isplitl [HF]; · iexact HF
    iexact HO
  iintro %_ ⟨⟨HR, HX'⟩, Hs, HO⟩
  isplitl [HR]; · iexact HR
  isplitr [HO]
  · isplitl [HX HX']
    · iapply (pointsTo_split_subset (Finset.subset_univ Sx)).2
      isplitl [HX']; · iexact HX'
      iexact HX
    iexact Hs
  iexact HO

/-! ## A half of the triangle leaving -/

/-- The rows of the triangle from `r0` on, a half of them. -/
def Half (r0 : ℕ) : Finset S256x256.Idx := Finset.univ.filter fun i => r0 ≤ (i 0).val ∧ (i 0).val < r0 + 128

theorem mem_Half {r0 : ℕ} {i : S256x256.Idx} : i ∈ Half r0 ↔ r0 ≤ (i 0).val ∧ (i 0).val < r0 + 128 := by
  simp [Half]

/-- The subcore's number. -/
def wid : ℕ := 2 * (L 1).val + (L 0).val

/-- The rows from `r0` on, a half of them, of the subcore's thirty-two results. -/
def Out (r0 : ℕ) : Finset S1024x256x256.Idx :=
  Finset.univ.filter fun i => (i 0).val / 32 = wid L ∧ r0 ≤ (i 1).val ∧ (i 1).val < r0 + 128

theorem mem_Out {r0 : ℕ} {i : S1024x256x256.Idx} :
    i ∈ Out L r0 ↔ (i 0).val / 32 = wid L ∧ r0 ≤ (i 1).val ∧ (i 1).val < r0 + 128 := by
  simp [Out]

/-- The results with those below number `β` in place and the others as they were. -/
def upTo (x : Buf (Elt F) (xLoc d)) (o0 : Buf (Elt F) (oLoc d)) (β : ℕ) : Buf (Elt F) (oLoc d) :=
  fun i : S1024x256x256.Idx => if (i 0).val < β then spec x i else o0 i

/-- The half from row `r0` on of the triangle on its way to result `β`. -/
def FlightOut (sm : DmaSem sig) (N : ℕ) (x : Buf (Elt F) (xLoc d)) (o0 : Buf (Elt F) (oLoc d)) (r0 β : ℕ) : sProp 𝕄 :=
  iprop(∃ Sb : Finset S1024x256x256.Idx, ⌜∀ i : S1024x256x256.Idx, i ∈ Sb ↔ i ∈ Out L r0 ∧ (i 0).val = β⌝
    ∗ (oLoc d ↦[Out L r0 \ Sb]{fullShare} upTo d x o0 β)
    ∗ Transfers.Flight EC (thr d L) (.dma sm) (none : HIx 1) N
        iprop((oLoc d ↦[Sb]{fullShare} (spec x : Buf (Elt F) (oLoc d))) ∗ Known d L (Half r0) (cell (packed x β)) fun _ _ => True))

theorem start_out {x : Buf (Elt F) (xLoc d)} {o0 : Buf (Elt F) (oLoc d)} (r0 β : ℕ) (hβ : β / 32 = wid L)
    (os : Fin 2 → ℕ) (hs : ∀ a, os a + S128x256.size a ≤ S256x256.size a) (hos : os = ![r0, 0])
    (od : Fin 3 → ℕ) (hd : ∀ a, od a + S1x128x256.size a ≤ S1024x256x256.size a) (hod : od = ![β, r0, 0])
    (sq : S1x128x256.Squeezes S128x256) {sm : DmaSem sig} {N : ℕ} {h1 h2 h3}
    (hN : ((oV.slice (Rect.unit (s := S1024x256x256) od S1x128x256.size hd) (fun _ => rfl)).squeeze S128x256 sq).view.dmaCredit = N) :
    iprop(Known d L (Half r0) (cell (packed x β)) (fun _ _ => True) ∗ (oLoc d ↦[Out L r0]{fullShare} upTo d x o0 β) ∗ semVal (thr d L, .dma sm) 0)
      ⊢ wpL (F := F) d L (Prog.lift (.enqueueDma (tV.slice (Rect.unit (s := S256x256) os S128x256.size hs) (fun _ => rfl))
          (.here ((oV.slice (Rect.unit (s := S1024x256x256) od S1x128x256.size hd) (fun _ => rfl)).squeeze S128x256 sq)) (.dma sm) h1 h2 h3))
          fun _ => FlightOut d L sm N x o0 r0 β := by
  subst hos hod
  set src := (tV.slice (Rect.unit (s := S256x256) ![r0, 0] S128x256.size hs) (fun _ => rfl)) with hsrc
  set dst := ((oV.slice (Rect.unit (s := S1024x256x256) ![β, r0, 0] S1x128x256.size hd) (fun _ => rfl)).squeeze S128x256 sq) with hdst
  have hset : src.view.set = Half r0 := by
    ext i
    refine Iff.trans ?_ mem_Half.symm
    show i ∈ ((View.whole cc0_scratch0).slice (Rect.unit (s := S256x256) ![r0, 0] S128x256.size hs)).set ↔ _
    rw [View.set_slice_whole, Rect.mem_set_unit]
    refine ⟨fun h => h 0, fun h a => match a with | ⟨0, _⟩ => h | ⟨1, _⟩ => ⟨Nat.zero_le _, ?_⟩⟩
    show (i 1).val < 0 + 256
    have : (i 1).val < 256 := (i 1).isLt
    omega
  have hmem : ∀ i : S1024x256x256.Idx, i ∈ dst.view.set ↔ i ∈ Out L r0 ∧ (i 0).val = β := by
    intro i
    rw [mem_Out]
    show i ∈ (((View.whole main_v0_scv).slice (Rect.unit (s := S1024x256x256) ![β, r0, 0] S1x128x256.size hd)).reshape S128x256 sq.numel_eq).set ↔ _
    rw [View.set_reshape, View.set_slice_whole, Rect.mem_set_unit]
    have h2 : (i 2).val < 256 := (i 2).isLt
    constructor
    · intro h
      have a0 : β ≤ (i 0).val ∧ (i 0).val < β + 1 := h 0
      have a1 : r0 ≤ (i 1).val ∧ (i 1).val < r0 + 128 := h 1
      have e : (i 0).val = β := by omega
      exact ⟨⟨by rw [e]; exact hβ, a1⟩, e⟩
    · rintro ⟨⟨_, a1⟩, e⟩ a
      match a with
      | ⟨0, _⟩ => show β ≤ (i 0).val ∧ (i 0).val < β + 1; omega
      | ⟨1, _⟩ => exact a1
      | ⟨2, _⟩ => show 0 ≤ (i 2).val ∧ (i 2).val < 0 + 256; omega
  have hsub : dst.view.set ⊆ Out L r0 := fun i hi => ((hmem i).mp hi).1
  have hw : ∀ (g : Buf (Elt F) (oLoc d)) (f : Buf (Elt F) (tLoc d L)),
      (∀ i : S256x256.Idx, i ∈ Half r0 → True → f i = cell (packed x β) (i 0).val (i 1).val) → ∀ i ∈ dst.view.set,
      (dst.view.write (Elt F) g ((ReadAs.same (Val := Elt F)).apply (src.view.read (Elt F) f)) Finset.univ) i = spec x i := by
    intro g f hf i hi
    obtain ⟨y, -, rfl⟩ := Finset.mem_map.mp hi
    rw [View.write_emb_of_mem _ _ (Finset.mem_univ _)]
    show f (src.view.emb y) = _
    rw [hf _ (hset ▸ Finset.mem_map_of_mem _ (Finset.mem_univ _)) trivial]
    have e : Shape.reshapeEquiv sq.numel_eq y = ix3 (⟨0, Nat.one_pos⟩ : Fin 1) (y 0) (y 1) := by
      conv_lhs => rw [eq_ix2 y]
      exact ValueIdx.reshapeEquiv_ix2_1ab _ _ _
    have e0 : (dst.view.emb y 0).val = β := by
      show β + 1 * ((Shape.reshapeEquiv sq.numel_eq y) 0).val = β
      rw [e]; rfl
    have e1 : (dst.view.emb y 1).val = (src.view.emb y 0).val := by
      show r0 + 1 * ((Shape.reshapeEquiv sq.numel_eq y) 1).val = r0 + 1 * (y 0).val
      rw [e]
    have e2 : (dst.view.emb y 2).val = (src.view.emb y 1).val := by
      show 0 + 1 * ((Shape.reshapeEquiv sq.numel_eq y) 2).val = 0 + 1 * (y 1).val
      rw [e]
    show _ = cell (packed x (dst.view.emb y 0).val) (dst.view.emb y 1).val (dst.view.emb y 2).val
    rw [e0, e1, e2]
  iintro ⟨HT, HO, Hs⟩
  ihave HT := (Known.elim d L) $$ HT
  icases HT with ⟨%f, %hf, HT⟩
  ihave HO := (pointsTo_split_subset hsub).1 $$ HO
  icases HO with ⟨HO, HOr⟩
  iapply (Transfers.wp_dmaLocal EC 𝒱₀ (thr d L) none (src := src) (dst := dst) (sm := .dma sm) (fs := f) (fd := upTo d x o0 β) (q := fullShare) (none : HIx 1) N hN
    (hN ▸ View.dmaCredit_pos _ (by decide)) (Finset.Subset.refl _)) $$ [HT HO Hs]
  · rw [hset]
    isplitl [HT]; · iexact HT
    isplitl [HO]; · iexact HO
    iexact Hs
  iintro HF
  sl_step
  unfold FlightOut
  iexists dst.view.set
  isplitr; · ipureintro; exact hmem
  isplitl [HOr]; · iexact HOr
  iapply (Transfers.Flight_mono EC (thr d L) (BIClass.sep_mono (Entails.of_eq (pointsTo_congr (hw _ f hf))) (by
    rw [hset]
    unfold Known
    iintro H
    iexists f
    isplitr; · ipureintro; exact hf
    iexact H))) $$ HF

theorem wait_out {sm : DmaSem sig} {N : ℕ} {x : Buf (Elt F) (xLoc d)} {o0 : Buf (Elt F) (oLoc d)} {r0 β : ℕ}
    {O : CellTallies nD τ sig (HIx 1)} {W : Waits sig (HIx 1)}
    {sp sp' : Space} {s s' : Shape} {e e' : EltTy} {src : Memref sig .scVector sp' s' e'} {κ : Kind} {dst : Memref sig κ sp s e}
    {h1 : src.view.WordExact} {h2 : dst.view.WordExact} (hN : dst.view.dmaCredit = N) :
    iprop(FlightOut d L sm N x o0 r0 β ∗ Owing d L O W)
      ⊢ wpL (F := F) d L (Prog.lift (.waitDma2 sm src dst h1 h2)) fun _ =>
          iprop(Known d L (Half r0) (cell (packed x β)) (fun _ _ => True)
            ∗ ((oLoc d ↦[Out L r0]{fullShare} upTo d x o0 (β + 1)) ∗ semVal (thr d L, .dma sm) 0) ∗ Owing d L O W) := by
  unfold FlightOut
  iintro ⟨⟨%Sb, %hSb, HX, HF⟩, HO⟩
  iapply (wp_wand frame (wpE (defs₀ (F := F)) 𝒱₀ (thr d L) none) Set.univ) $$ [HF HO]
  · iapply (wait_flight d L hN) $$ [HF HO]
    isplitl [HF]; · iexact HF
    iexact HO
  iintro %_ ⟨⟨HX', HR⟩, Hs, HO⟩
  isplitl [HR]; · iexact HR
  isplitr [HO]
  · isplitl [HX HX']
    · iapply (pointsTo_split_subset (show Sb ⊆ Out L r0 from fun i hi => ((hSb i).mp hi).1)).2
      isplitl [HX']
      · iapply (Entails.of_eq (pointsTo_congr (fun (i : S1024x256x256.Idx) hi => by
          show spec x i = if _ then _ else _
          rw [if_pos (by have := ((hSb i).mp hi).2; omega)]))) $$ HX'
      · iapply (Entails.of_eq (pointsTo_congr (fun (i : S1024x256x256.Idx) hi => by
          show (if _ then _ else _) = if _ then _ else _
          have h : (i 0).val ≠ β := fun e => (Finset.mem_sdiff.mp hi).2 ((hSb i).mpr ⟨(Finset.mem_sdiff.mp hi).1, e⟩)
          exact if_congr (by omega) rfl rfl))) $$ HX
    iexact Hs
  iexact HO

end Cert.Proof.Tril

end
-- ==== Proof.Parts.lean ====
/-
  The chains of loops of one batch: the three bands of rows the kernel unpacks, each loop an instance of a loop lemma, one
  after the other.
-/
module

public import proofs.«01_k».proof.Proof.Pay
public import proofs.«01_k».proof.Proof.Chan

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 eq_ix1 eq_ix2 eq_ix3)

variable {F : FTy → Type} [FloatOps F]

local notation "𝕄" => MT nD τ sig (HIx 1) (Elt F) ℕ UU ℕ

variable (d : Dev nD) (L : grid0.Coords)

/-! ## Running one program after another -/

/-- One program after another, with what the first does not touch carried past it. -/
theorem seqF {α β : Type} {p : Prog (TpuEff nD τ sig (Elt F) Λ₀ (.scVector (cV L) (jV L))) α}
    {k : α → Prog (TpuEff nD τ sig (Elt F) Λ₀ (.scVector (cV L) (jV L))) β} {P H : sProp 𝕄} {R : α → sProp 𝕄} {Q : β → sProp 𝕄}
    (hp : P ⊢ wpL d L p R) (hk : ∀ a, iprop(R a ∗ H) ⊢ wpL d L (k a) Q) : iprop(P ∗ H) ⊢ wpL d L (p >>= k) Q := by
  show _ ⊢ wp frame (wpE (defs₀ (F := F)) 𝒱₀ (thr d L) none) Set.univ (p >>= k) Q
  rw [wp_bind]
  exact (BIClass.sep_mono hp (Entails.of_eq rfl)).trans ((wp_frame_r _ _ _).trans (wp_mono _ _ _ hk))

/-- The same where the first program's result is known. -/
theorem seqV {α β : Type} {p : Prog (TpuEff nD τ sig (Elt F) Λ₀ (.scVector (cV L) (jV L))) α}
    {k : α → Prog (TpuEff nD τ sig (Elt F) Λ₀ (.scVector (cV L) (jV L))) β} {P H R : sProp 𝕄} {c : α} {Q : β → sProp 𝕄}
    (hp : P ⊢ wpL d L p fun r => iprop(⌜r = c⌝ ∗ R)) (hk : iprop(R ∗ H) ⊢ wpL d L (k c) Q) : iprop(P ∗ H) ⊢ wpL d L (p >>= k) Q :=
  seqF d L hp fun a => by
    iintro ⟨⟨%e, HR⟩, HH⟩
    subst e
    iapply hk
    isplitl [HR]; · iexact HR
    iexact HH

/-- A program that returns. -/
theorem retV {α : Type} {P : sProp 𝕄} (c : α) :
    P ⊢ wpL d L (pure c : Prog (TpuEff nD τ sig (Elt F) Λ₀ (.scVector (cV L) (jV L))) α) fun r => iprop(⌜r = c⌝ ∗ P) := by
  show P ⊢ wp frame (wpE (defs₀ (F := F)) 𝒱₀ (thr d L) none) Set.univ _ _
  iintro H
  sl_step
  isplitr; · ipureintro; rfl
  iexact H

/-- A program whose result is known, then another, the first having everything. -/
theorem seqA {α β : Type} {p : Prog (TpuEff nD τ sig (Elt F) Λ₀ (.scVector (cV L) (jV L))) α}
    {k : α → Prog (TpuEff nD τ sig (Elt F) Λ₀ (.scVector (cV L) (jV L))) β} {P R : sProp 𝕄} {c : α} {Q : β → sProp 𝕄}
    (hp : P ⊢ wpL d L p fun r => iprop(⌜r = c⌝ ∗ R)) (hk : R ⊢ wpL d L (k c) Q) : P ⊢ wpL d L (p >>= k) Q :=
  Laws.sep_emp.2.trans (seqV d L hp (Laws.sep_emp.1.trans hk))

/-! ## The three bands of rows -/

/-- The part of the packed row that arrives first, and the part that arrives second. -/
def In1 : Finset S32896.Idx := Finset.univ.filter fun i => (i 0).val < 16384
def In2 : Finset S32896.Idx := Finset.univ.filter fun i => 16384 ≤ (i 0).val

theorem mem_In1 {i : S32896.Idx} : i ∈ In1 ↔ 0 ≤ (i 0).val ∧ (i 0).val < 0 + 16384 := by simp [In1]
theorem mem_In2 {i : S32896.Idx} : i ∈ In2 ↔ 16384 ≤ (i 0).val ∧ (i 0).val < 16384 + 16512 := by
  have : (i 0).val < 32896 := (i 0).isLt
  simp only [In2, Finset.mem_filter, Finset.mem_univ, true_and]
  omega

theorem tri_181 : tri 181 = 16471 := rfl
theorem tri_128 : tri 128 = 8256 := rfl

/-- The state between two loops of a band: packed numbers to read from, and the rows `r0 ≤ r < r1` of a half of the
    triangle unpacked in their columns below `16 j`. -/
abbrev Band (B : Finset S32896.Idx) (h : ℕ) (g : ℕ → F .f32) (r0 r1 j : ℕ) : sProp 𝕄 :=
  iprop(Row d L B g ∗ Known d L (Half h) (cell g) (Part r0 r1 j))

/-- A half of the triangle between two batches: zeros above the diagonal blocks. -/
def Clear (h : ℕ) : sProp 𝕄 := Known d L (Half h) (fun _ _ => (zero : F .f32)) (fun r c => 16 * (r / 16) + 16 ≤ c)

/-- A half of the triangle unpacked. -/
abbrev Full (h : ℕ) (g : ℕ → F .f32) : sProp 𝕄 := Known d L (Half h) (cell g) fun _ _ => True

theorem cell_above {g : ℕ → F .f32} {r c : ℕ} (h : 16 * (r / 16) + 16 ≤ c) : cell g r c = zero := by
  rw [cell, if_neg (by omega), if_neg (by omega)]

theorem Full.clear {h : ℕ} {g : ℕ → F .f32} : Full d L h g ⊢ (Clear d L h : sProp 𝕄) :=
  Known.mono d L fun _ _ hc => ⟨trivial, cell_above hc⟩

/-- The last rows can be begun. -/
theorem Clear.part {h r0 r1 : ℕ} (hr : h + 128 ≤ r1) {g : ℕ → F .f32} :
    Clear d L h ⊢ (Known d L (Half h) (cell g) (Part r0 r1 0) : sProp 𝕄) :=
  Known.mono d L fun i hi hc => by
    have h1 : (i 0).val < h + 128 := (mem_Half.mp hi).2
    have hc : 16 * ((i 0).val / 16) + 16 ≤ (i 1).val := by
      rcases hc with hc | hc | hc
      · exact hc
      · omega
      · omega
    exact ⟨hc, (cell_above hc).symm⟩

variable {lp : Scf.Loop 32} {hok : lp.OK} {o5 : Fin lp.trips → Fin 1 → ℕ} {h5 : ∀ s a, o5 s a + S16.size a ≤ S32896.size a}
  {o4 : Fin lp.trips → Fin 2 → ℕ} {h4 : ∀ s a, o4 s a + S1x16.size a ≤ S256x256.size a}
  {pay : Vec F S16 .f32 → FVec F S1x16 .f32} {g : ℕ → F .f32}

/-- A copying loop of the last rows, which read the second part of the packed row alone. -/
theorem hi_loop (j lo : ℕ) (hlo : lo = max (16 * j + 16) 181) (htr : lp.trips = 256 - lo)
    (ho5 : ∀ s, o5 s 0 = tri (s.val + lo) + 16 * j) (ho4 : ∀ s, o4 s = ![s.val + lo, 16 * j]) (hp : ∀ v c, pay v (ix2 0 c) = v (ix1 c)) :
    Band d L In2 128 g 181 256 j
      ⊢ wpL d L (Scf.Loop.for lp hok ⟨⟩ fun s (_ : Unit) => fillTrip L (o5 s) (h5 s) (o4 s) (h4 s) pay) fun _ => Band d L In2 128 g 181 256 (j + 1) :=
  copy_loop d L lp hok o5 h5 o4 h4 pay 181 256 j lo (by omega) (by omega) htr ho5 ho4 hp
    (fun i h _ => mem_In2.mpr (by have : (i 0).val < 32896 := (i 0).isLt; rw [tri_181] at h; omega))
    (fun i h _ => mem_Half.mpr (by have : (i 0).val < 256 := (i 0).isLt; omega))

/-- A copying loop of the middle rows, which read both parts of the packed row. -/
theorem mid_loop (j lo : ℕ) (hlo : lo = max (16 * j + 16) 128) (htr : lp.trips = 181 - lo)
    (ho5 : ∀ s, o5 s 0 = tri (s.val + lo) + 16 * j) (ho4 : ∀ s, o4 s = ![s.val + lo, 16 * j]) (hp : ∀ v c, pay v (ix2 0 c) = v (ix1 c)) :
    Band d L Finset.univ 128 g 128 181 j
      ⊢ wpL d L (Scf.Loop.for lp hok ⟨⟩ fun s (_ : Unit) => fillTrip L (o5 s) (h5 s) (o4 s) (h4 s) pay) fun _ => Band d L Finset.univ 128 g 128 181 (j + 1) :=
  copy_loop d L lp hok o5 h5 o4 h4 pay 128 181 j lo (by omega) (by omega) htr ho5 ho4 hp
    (fun _ _ _ => Finset.mem_univ _)
    (fun i h _ => mem_Half.mpr (by have : (i 0).val < 256 := (i 0).isLt; omega))

/-- A copying loop of the first rows, which read the first part of the packed row alone. -/
theorem lo_loop (j lo : ℕ) (hlo : lo = max (16 * j + 16) 0) (htr : lp.trips = 128 - lo)
    (ho5 : ∀ s, o5 s 0 = tri (s.val + lo) + 16 * j) (ho4 : ∀ s, o4 s = ![s.val + lo, 16 * j]) (hp : ∀ v c, pay v (ix2 0 c) = v (ix1 c)) :
    Band d L In1 0 g 0 128 j
      ⊢ wpL d L (Scf.Loop.for lp hok ⟨⟩ fun s (_ : Unit) => fillTrip L (o5 s) (h5 s) (o4 s) (h4 s) pay) fun _ => Band d L In1 0 g 0 128 (j + 1) :=
  copy_loop d L lp hok o5 h5 o4 h4 pay 0 128 j lo (by omega) (by omega) htr ho5 ho4 hp
    (fun i _ h => mem_In1.mpr (by rw [tri_128] at h; omega))
    (fun i _ h => mem_Half.mpr (by omega))

/-- The loop of the last rows' diagonal blocks. -/
theorem hi_diag (c0 c1 : BitVec 32) (v10 : BitVec 32) (t : Fin k0_t17_loop.trips) :
    Band d L In2 128 g 181 256 15
      ⊢ wpL d L (Scf.Loop.for k0_t33_loop k0_t33_ok ⟨⟩ (k0_t33_body L xV (Memref.isWhole_whole _) oV (Memref.isWhole_whole _) tV (Memref.isWhole_whole _) rV (Memref.isWhole_whole _)
        cc0_scratch2 cc0_scratch3 cc0_scratch4 cc0_scratch5 lanes k0_pay34 t v10 c0 c1))
          fun _ => Band d L In2 128 g 128 181 0 :=
  (diag_loop d L k0_t33_loop k0_t33_ok k0_off51 k0_off51_inb k0_off52 k0_off52_inb (fun s => k0_pay16 lanes k0_pay34 s) 181 256 15
    (by decide) (by decide +kernel) (by decide +kernel) (by decide +kernel)
    (fun s v c => diag_pay (Scalar.addi 181#32 (Scalar.muli (Scf.iv 0#32 1#32 s) 1#32)) (s.val + 181)
      ((by decide +kernel : ∀ s : Fin k0_t33_loop.trips, Scalar.addi 181#32 (Scalar.muli (Scf.iv 0#32 1#32 s) 1#32) = BitVec.ofNat 32 (s.val + 181)) s)
      ((by decide +kernel : ∀ s : Fin k0_t33_loop.trips, s.val + 181 < 256) s) v c)
    (fun i h _ => mem_In2.mpr (by have : (i 0).val < 32896 := (i 0).isLt; rw [tri_181] at h; omega))
    (fun i h _ => mem_Half.mpr (by have : (i 0).val < 256 := (i 0).isLt; omega))).trans
  (wp_mono _ _ _ fun _ => BIClass.sep_mono (Entails.of_eq rfl) (Known.mono d L fun i _ h => ⟨by
    rcases h with h | h | h
    · exact .inl h
    · exact .inr h
    · omega, rfl⟩))

/-- The loop of the middle rows' diagonal blocks. -/
theorem mid_diag (v10 v63 : BitVec 32) (t : Fin k0_t17_loop.trips) :
    Band d L Finset.univ 128 g 128 181 11
      ⊢ wpL d L (Scf.Loop.for k0_t45_loop k0_t45_ok ⟨⟩ (k0_t45_body L xV (Memref.isWhole_whole _) oV (Memref.isWhole_whole _) tV (Memref.isWhole_whole _) rV (Memref.isWhole_whole _)
        cc0_scratch2 cc0_scratch3 cc0_scratch4 cc0_scratch5 lanes k0_pay34 t v10 v63 0#32 1#32))
          fun _ => iprop(Row d L Finset.univ g ∗ Full d L 128 g) :=
  (diag_loop d L k0_t45_loop k0_t45_ok k0_off76 k0_off76_inb k0_off77 k0_off77_inb (fun s => k0_pay28 lanes k0_pay34 0#32 1#32 s) 128 181 11
    (by decide) (by decide +kernel) (by decide +kernel) (by decide +kernel)
    (fun s v c => diag_pay (Scalar.addi 128#32 (Scalar.muli (Scf.iv 0#32 1#32 s) 1#32)) (s.val + 128)
      ((by decide +kernel : ∀ s : Fin k0_t45_loop.trips, Scalar.addi 128#32 (Scalar.muli (Scf.iv 0#32 1#32 s) 1#32) = BitVec.ofNat 32 (s.val + 128)) s)
      ((by decide +kernel : ∀ s : Fin k0_t45_loop.trips, s.val + 128 < 256) s) v c)
    (fun _ _ _ => Finset.mem_univ _)
    (fun i h _ => mem_Half.mpr (by have : (i 0).val < 256 := (i 0).isLt; omega))).trans
  (wp_mono _ _ _ fun _ => BIClass.sep_mono (Entails.of_eq rfl) (Known.mono d L fun i hi _ => ⟨.inr (mem_Half.mp hi).1, rfl⟩))

/-- The loop of the first rows' diagonal blocks. -/
theorem lo_diag (v2 c0 c1 : BitVec 32) :
    Band d L In1 0 g 0 128 7
      ⊢ wpL d L (Scf.Loop.for k0_t53_loop k0_t53_ok ⟨⟩ (k0_t53_body L xV (Memref.isWhole_whole _) oV (Memref.isWhole_whole _) tV (Memref.isWhole_whole _) rV (Memref.isWhole_whole _)
        cc0_scratch2 cc0_scratch3 cc0_scratch4 cc0_scratch5 v2 lanes k0_pay34 c0 c1))
          fun _ => iprop(Row d L In1 g ∗ Full d L 0 g) :=
  (diag_loop d L k0_t53_loop k0_t53_ok k0_off95 k0_off95_inb k0_off96 k0_off96_inb (fun s => k0_pay53 lanes k0_pay34 s) 0 128 7
    (by decide) (by decide +kernel) (by decide +kernel) (by decide +kernel)
    (fun s v c => diag_pay (Scalar.addi 0#32 (Scalar.muli (Scf.iv 0#32 1#32 s) 1#32)) (s.val + 0)
      ((by decide +kernel : ∀ s : Fin k0_t53_loop.trips, Scalar.addi 0#32 (Scalar.muli (Scf.iv 0#32 1#32 s) 1#32) = BitVec.ofNat 32 (s.val + 0)) s)
      ((by decide +kernel : ∀ s : Fin k0_t53_loop.trips, s.val + 0 < 256) s) v c)
    (fun i _ h => mem_In1.mpr (by rw [tri_128] at h; omega))
    (fun i _ h => mem_Half.mpr (by omega))).trans
  (wp_mono _ _ _ fun _ => BIClass.sep_mono (Entails.of_eq rfl) (Known.mono d L fun i _ _ => ⟨.inr (Nat.zero_le _), rfl⟩))

/-- The middle rows' copying loops after the first. -/
theorem part3_wp (c0 c1 : BitVec 32) (H : sProp 𝕄) :
    iprop(Band d L Finset.univ 128 g 128 181 1 ∗ H)
      ⊢ wpL d L (k0_part3 L xV (Memref.isWhole_whole _) oV (Memref.isWhole_whole _) tV (Memref.isWhole_whole _) rV (Memref.isWhole_whole _)
          cc0_scratch2 cc0_scratch3 cc0_scratch4 cc0_scratch5 c0 c1)
          fun r => iprop(⌜r = ⟨0#32, 1#32⟩⌝ ∗ Band d L Finset.univ 128 g 128 181 11 ∗ H) := by
  rw [k0_part3_eq_skeleton]
  unfold k0_part3_skel
  refine seqF d L (mid_loop d L (lp := k0_t35_loop) (o5 := k0_off56) (o4 := k0_off57) 1 128 rfl (by decide +kernel) (by decide +kernel) k0_off57_eq copy_pay) fun _ => ?_
  refine seqF d L (mid_loop d L (lp := k0_t36_loop) (o5 := k0_off58) (o4 := k0_off59) 2 128 rfl (by decide +kernel) (by decide +kernel) k0_off59_eq copy_pay) fun _ => ?_
  refine seqF d L (mid_loop d L (lp := k0_t37_loop) (o5 := k0_off60) (o4 := k0_off61) 3 128 rfl (by decide +kernel) (by decide +kernel) k0_off61_eq copy_pay) fun _ => ?_
  refine seqF d L (mid_loop d L (lp := k0_t38_loop) (o5 := k0_off62) (o4 := k0_off63) 4 128 rfl (by decide +kernel) (by decide +kernel) k0_off63_eq copy_pay) fun _ => ?_
  refine seqF d L (mid_loop d L (lp := k0_t39_loop) (o5 := k0_off64) (o4 := k0_off65) 5 128 rfl (by decide +kernel) (by decide +kernel) k0_off65_eq copy_pay) fun _ => ?_
  refine seqF d L (mid_loop d L (lp := k0_t40_loop) (o5 := k0_off66) (o4 := k0_off67) 6 128 rfl (by decide +kernel) (by decide +kernel) k0_off67_eq copy_pay) fun _ => ?_
  refine seqF d L (mid_loop d L (lp := k0_t41_loop) (o5 := k0_off68) (o4 := k0_off69) 7 128 rfl (by decide +kernel) (by decide +kernel) k0_off69_eq copy_pay) fun _ => ?_
  refine seqF d L (mid_loop d L (lp := k0_t42_loop) (o5 := k0_off70) (o4 := k0_off71) 8 144 rfl (by decide +kernel) (by decide +kernel) k0_off71_eq copy_pay) fun _ => ?_
  refine seqF d L (mid_loop d L (lp := k0_t43_loop) (o5 := k0_off72) (o4 := k0_off73) 9 160 rfl (by decide +kernel) (by decide +kernel) k0_off73_eq copy_pay) fun _ => ?_
  refine seqF d L (mid_loop d L (lp := k0_t44_loop) (o5 := k0_off74) (o4 := k0_off75) 10 176 rfl (by decide +kernel) (by decide +kernel) k0_off75_eq copy_pay) fun _ => ?_
  exact retV d L _

end Cert.Proof.Tril

end
-- ==== Proof.Batch.lean ====
/-
  One batch: the four transfers and the three bands of rows of trip `t` of the kernel's outer loop, from the state between
  two trips to the state after.
-/
module

public import proofs.«01_k».proof.Proof.Parts

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 eq_ix1 eq_ix2 eq_ix3)

variable {F : FTy → Type} [FloatOps F]

local notation "𝕄" => MT nD τ sig (HIx 1) (Elt F) ℕ UU ℕ

variable (d : Dev nD) (L : grid0.Coords)

/-! ## The state between two batches -/

/-- The subcore's first result. -/
def base : ℕ := 32 * wid L

theorem t17_lt : ∀ t : Fin k0_t17_loop.trips, t.val < 32 := by decide +kernel

theorem base_eq (n : ℕ) : 64 * (L 1).val + 32 * (L 0).val + n = base L + n := by unfold base wid; omega

theorem base_div (t : Fin k0_t17_loop.trips) : (base L + t.val) / 32 = wid L := by
  have : t.val < 32 := t17_lt t
  unfold base; omega

/-- What one transfer of each kind credits. -/
def nIn1 : ℕ := (rV.slice (Rect.unit (s := S32896) ![0] S16384.size inb_S32896_S16384_0) (fun _ => rfl)).view.dmaCredit
def nIn2 : ℕ := (rV.slice (Rect.unit (s := S32896) ![16384] S16512.size inb_S32896_S16512_16384) (fun _ => rfl)).view.dmaCredit
def nOut : ℕ :=
  ((oV.slice (Rect.unit (s := S1024x256x256) (k0_off100 L) S1x128x256.size (k0_off100_inb L)) (fun _ => rfl)).squeeze S128x256 squeezes_S1x128x256_S128x256).view.dmaCredit

variable (x : Buf (Elt F) (xLoc d)) (o0 : Buf (Elt F) (oLoc d))

/-- A share of the packed rows and an idle semaphore: what a transfer of a part of a packed row takes beside its target. -/
def Idle (sm : DmaSem sig) (q : PosShare TreeShare) : sProp 𝕄 := iprop((xLoc d ↦[Finset.univ]{q} x) ∗ semVal (thr d L, .dma sm) 0)

/-- A part of the packed row before batch `k`: in place before the first, under way before the others, unused after the last. -/
def InSt (sm : DmaSem sig) (N : ℕ) (q : PosShare TreeShare) (B : Finset S32896.Idx) (k : ℕ) : sProp 𝕄 :=
  if k = 0 then iprop(Row d L B (packed x (base L)) ∗ Idle d L x sm q)
  else if k < 32 then FlightIn d L sm N q x B (base L + k)
  else iprop(Junk d L B ∗ Idle d L x sm q)

/-- The half from row `h` on of the subcore's results, those of the first `k` batches in place, and an idle semaphore. -/
def Ready (sm : DmaSem sig) (h k : ℕ) : sProp 𝕄 :=
  iprop((oLoc d ↦[Out L h]{fullShare} upTo d x o0 (base L + k)) ∗ semVal (thr d L, .dma sm) 0)

/-- A half of the triangle before batch `k`: at rest before the first, on its way to the result before the others. -/
def OutSt (sm : DmaSem sig) (N h k : ℕ) : sProp 𝕄 :=
  if k = 0 then iprop(Clear d L h ∗ Ready d L x o0 sm h 0) else FlightOut d L sm N x o0 h (base L + (k - 1))

variable {d L x o0}

theorem InSt_zero {sm N q B k} (h : k = 0) : InSt d L x sm N q B k = (iprop(Row d L B (packed x (base L + k)) ∗ Idle d L x sm q) : sProp 𝕄) := by
  subst h; rfl
theorem InSt_pos {sm N q B k} (h : k ≠ 0) (h' : k < 32) : InSt d L x sm N q B k = (FlightIn d L sm N q x B (base L + k) : sProp 𝕄) := by
  rw [InSt, if_neg h, if_pos h']
theorem InSt_last {sm N q B k} (h : 32 ≤ k) : InSt d L x sm N q B k = (iprop(Junk d L B ∗ Idle d L x sm q) : sProp 𝕄) := by
  rw [InSt, if_neg (by omega), if_neg (by omega)]
theorem OutSt_zero {sm N h k} (hk : k = 0) : OutSt d L x o0 sm N h k = (iprop(Clear d L h ∗ Ready d L x o0 sm h k) : sProp 𝕄) := by
  subst hk; rfl
theorem OutSt_pos {sm N h k} (hk : k ≠ 0) : OutSt d L x o0 sm N h k = (FlightOut d L sm N x o0 h (base L + (k - 1)) : sProp 𝕄) := if_neg hk

variable (d L)

/-- A conditional, then a continuation that both of its branches run. -/
theorem iteK {c : Prop} [Decidable c] {α : Type} {A : c → Prog (TpuEff nD τ sig (Elt F) Λ₀ (.scVector (cV L) (jV L))) α}
    {k : Prog (TpuEff nD τ sig (Elt F) Λ₀ (.scVector (cV L) (jV L))) α} {P R : sProp 𝕄} {Q : α → sProp 𝕄}
    (hc : ∀ h : c, (R ⊢ wpL d L k Q) → (P ⊢ wpL d L (A h) Q)) (hn : ¬ c → (P ⊢ R)) (hk : R ⊢ wpL d L k Q) :
    P ⊢ wpL d L (if h : c then A h else k) Q := by
  by_cases h : c
  · rw [dif_pos h]; exact hc h hk
  · rw [dif_neg h]; exact (hn h).trans hk

/-- Waiting for the part of the packed row that batch `k` reads. -/
theorem take_in {sm : DmaSem sig} {N : ℕ} {q : PosShare TreeShare} {B : Finset S32896.Idx} {k : ℕ} (h0 : k ≠ 0) (h32 : k < 32)
    {O : CellTallies nD τ sig (HIx 1)} {W : Waits sig (HIx 1)}
    {sp sp' : Space} {s s' : Shape} {e e' : EltTy} {src : Memref sig .scVector sp' s' e'} {κ : Kind} {dst : Memref sig κ sp s e}
    {h1 : src.view.WordExact} {h2 : dst.view.WordExact} (hN : dst.view.dmaCredit = N) :
    iprop(InSt d L x sm N q B k ∗ Owing d L O W)
      ⊢ wpL (F := F) d L (Prog.lift (.waitDma2 sm src dst h1 h2)) fun _ =>
          iprop(Row d L B (packed x (base L + k)) ∗ Idle d L x sm q ∗ Owing d L O W) := by
  rw [InSt_pos h0 h32]
  exact wait_in d L hN

/-- Waiting for a half of the triangle to have left for the result of batch `k - 1`. -/
theorem take_out {sm : DmaSem sig} {N h k : ℕ} (h0 : k ≠ 0)
    {O : CellTallies nD τ sig (HIx 1)} {W : Waits sig (HIx 1)}
    {sp sp' : Space} {s s' : Shape} {e e' : EltTy} {src : Memref sig .scVector sp' s' e'} {κ : Kind} {dst : Memref sig κ sp s e}
    {h1 : src.view.WordExact} {h2 : dst.view.WordExact} (hN : dst.view.dmaCredit = N) :
    iprop(OutSt d L x o0 sm N h k ∗ Owing d L O W)
      ⊢ wpL (F := F) d L (Prog.lift (.waitDma2 sm src dst h1 h2)) fun _ =>
          iprop(Clear d L h ∗ Ready d L x o0 sm h k ∗ Owing d L O W) := by
  rw [OutSt_pos h0]
  refine (wait_out d L hN).trans (wp_mono _ _ _ fun _ => BIClass.sep_mono (Full.clear d L) ?_)
  unfold Ready
  rw [show base L + (k - 1) + 1 = base L + k by omega]

/-- The packed row's two parts are the packed row. -/
theorem row_split {g : ℕ → F .f32} : (Row d L Finset.univ g : sProp 𝕄) ⊣⊢ iprop(Row d L In1 g ∗ Row d L In2 g) := by
  have e : (Finset.univ : Finset S32896.Idx) = In1 ∪ In2 := by
    ext i
    simp only [Finset.mem_univ, Finset.mem_union, mem_In1, mem_In2, true_iff]
    have : (i 0).val < 32896 := (i 0).isLt
    omega
  unfold Row
  rw [e]
  exact pointsTo_union (Finset.disjoint_left.mpr fun i h h' => by
    rw [mem_In1] at h; rw [mem_In2] at h'; omega)

theorem cond1_iff : ∀ t : Fin k0_t17_loop.trips, k0_cond1 t = 1#1 ↔ t.val ≠ 0 := by decide +kernel
theorem cond2_iff : ∀ t : Fin k0_t17_loop.trips, k0_cond2 t = 1#1 ↔ t.val ≠ 0 := by decide +kernel
theorem cond3_iff : ∀ t : Fin k0_t17_loop.trips, k0_cond3 t = 1#1 ↔ t.val + 1 < 32 := by decide +kernel
theorem cond4_iff : ∀ t : Fin k0_t17_loop.trips, k0_cond4 t = 1#1 ↔ t.val ≠ 0 := by decide +kernel
theorem cond5_iff : ∀ t : Fin k0_t17_loop.trips, k0_cond5 t = 1#1 ↔ t.val + 1 < 32 := by decide +kernel

abbrev s1 : DmaSem sig := cc0_scratch2.sem
abbrev s2 : DmaSem sig := cc0_scratch3.sem
abbrev sHi : DmaSem sig := cc0_scratch4.sem
abbrev sLo : DmaSem sig := cc0_scratch5.sem

variable {O : CellTallies nD τ sig (HIx 1)} {W : Waits sig (HIx 1)} {q1 q2 : PosShare TreeShare}

/-- The batch's first stretch: the second part of its packed row arrived, the rows from 128 on free again, and the last
    rows' first eight loops. -/
theorem part1_wp (v2 : BitVec 32) (t : Fin k0_t17_loop.trips) (H : sProp 𝕄) :
    iprop((InSt d L x s2 nIn2 q2 In2 t.val ∗ OutSt d L x o0 sHi (nOut L) 128 t.val ∗ Owing d L O W) ∗ H)
      ⊢ wpL d L (k0_part1 L xV (Memref.isWhole_whole _) oV (Memref.isWhole_whole _) tV (Memref.isWhole_whole _) rV (Memref.isWhole_whole _)
          cc0_scratch2 cc0_scratch3 cc0_scratch4 cc0_scratch5 v2 0#32 1#32 t)
          fun r => iprop(⌜r = ⟨Scf.iv 0#32 1#32 t, Scalar.addi v2 (Scf.iv 0#32 1#32 t), 0#32, 1#32⟩⌝
            ∗ Band d L In2 128 (packed x (base L + t.val)) 181 256 8
            ∗ (Idle d L x s2 q2 ∗ Ready d L x o0 sHi 128 t.val ∗ Owing d L O W) ∗ H) := by
  have ht : t.val < 32 := t17_lt t
  rw [k0_part1_eq_skeleton]
  unfold k0_part1_skel
  dsimp only
  refine iteK d L (R := iprop(Band d L In2 128 (packed x (base L + t.val)) 181 256 0
        ∗ (Idle d L x s2 q2 ∗ Ready d L x o0 sHi 128 t.val ∗ Owing d L O W) ∗ H)) (fun h hk => ?_) (fun h => ?_) ?_
  · have h0 := (cond1_iff t).mp h
    refine (show _ ⊢ iprop((InSt d L x s2 nIn2 q2 In2 t.val ∗ Owing d L O W) ∗ OutSt d L x o0 sHi (nOut L) 128 t.val ∗ H) from by
      iintro ⟨⟨H1, H2, H3⟩, H4⟩; iframe).trans ?_
    refine seqF d L (take_in d L h0 ht rfl) fun _ => ?_
    refine (show _ ⊢ iprop((OutSt d L x o0 sHi (nOut L) 128 t.val ∗ Owing d L O W)
        ∗ Row d L In2 (packed x (base L + t.val)) ∗ Idle d L x s2 q2 ∗ H) from by
      iintro ⟨⟨H1, H2, H3⟩, H4, H5⟩; iframe).trans ?_
    refine seqF d L (take_out d L h0 rfl) fun _ => ?_
    refine BIBase.Entails.trans ?_ hk
    iintro ⟨⟨H1, H2, H3⟩, H4, H5, H6⟩
    ihave H1 := (Clear.part d L (h := 128) (r0 := 181) (r1 := 256) (by decide) (g := packed x (base L + t.val))) $$ H1
    unfold Band
    iframe
  · have h0 : t.val = 0 := by by_contra h0; exact h ((cond1_iff t).mpr h0)
    rw [InSt_zero h0, OutSt_zero h0]
    iintro ⟨⟨⟨H1, H2⟩, ⟨H3, H4⟩, H5⟩, H6⟩
    ihave H3 := (Clear.part d L (h := 128) (r0 := 181) (r1 := 256) (by decide) (g := packed x (base L + t.val))) $$ H3
    unfold Band
    iframe
  refine seqF d L (hi_loop d L (lp := k0_t18_loop) (o5 := k0_off21) (o4 := k0_off22) 0 181 rfl (by decide +kernel) (by decide +kernel) k0_off22_eq copy_pay) fun _ => ?_
  refine seqF d L (hi_loop d L (lp := k0_t19_loop) (o5 := k0_off23) (o4 := k0_off24) 1 181 rfl (by decide +kernel) (by decide +kernel) k0_off24_eq copy_pay) fun _ => ?_
  refine seqF d L (hi_loop d L (lp := k0_t20_loop) (o5 := k0_off25) (o4 := k0_off26) 2 181 rfl (by decide +kernel) (by decide +kernel) k0_off26_eq copy_pay) fun _ => ?_
  refine seqF d L (hi_loop d L (lp := k0_t21_loop) (o5 := k0_off27) (o4 := k0_off28) 3 181 rfl (by decide +kernel) (by decide +kernel) k0_off28_eq copy_pay) fun _ => ?_
  refine seqF d L (hi_loop d L (lp := k0_t22_loop) (o5 := k0_off29) (o4 := k0_off30) 4 181 rfl (by decide +kernel) (by decide +kernel) k0_off30_eq copy_pay) fun _ => ?_
  refine seqF d L (hi_loop d L (lp := k0_t23_loop) (o5 := k0_off31) (o4 := k0_off32) 5 181 rfl (by decide +kernel) (by decide +kernel) k0_off32_eq copy_pay) fun _ => ?_
  refine seqF d L (hi_loop d L (lp := k0_t24_loop) (o5 := k0_off33) (o4 := k0_off34) 6 181 rfl (by decide +kernel) (by decide +kernel) k0_off34_eq copy_pay) fun _ => ?_
  refine seqF d L (hi_loop d L (lp := k0_t25_loop) (o5 := k0_off35) (o4 := k0_off36) 7 181 rfl (by decide +kernel) (by decide +kernel) k0_off36_eq copy_pay) fun _ => ?_
  exact retV d L _

/-- The batch's second stretch: the last rows done, the first part of its packed row arrived, and the middle rows' first
    loop. -/
theorem part2_wp (c0 c1 v10 : BitVec 32) (t : Fin k0_t17_loop.trips) (H : sProp 𝕄) :
    iprop(Band d L In2 128 (packed x (base L + t.val)) 181 256 8 ∗ (InSt d L x s1 nIn1 q1 In1 t.val ∗ Owing d L O W) ∗ H)
      ⊢ wpL d L (k0_part2 L xV (Memref.isWhole_whole _) oV (Memref.isWhole_whole _) tV (Memref.isWhole_whole _) rV (Memref.isWhole_whole _)
          cc0_scratch2 cc0_scratch3 cc0_scratch4 cc0_scratch5 lanes k0_pay34 t v10 c0 c1)
          fun r => iprop(⌜r = ⟨0#32, 1#32⟩⌝
            ∗ Band d L Finset.univ 128 (packed x (base L + t.val)) 128 181 1 ∗ (Idle d L x s1 q1 ∗ Owing d L O W) ∗ H) := by
  have ht : t.val < 32 := t17_lt t
  rw [k0_part2_eq_skeleton]
  unfold k0_part2_skel
  refine seqF d L (hi_loop d L (lp := k0_t26_loop) (o5 := k0_off37) (o4 := k0_off38) 8 181 rfl (by decide +kernel) (by decide +kernel) k0_off38_eq copy_pay) fun _ => ?_
  refine seqF d L (hi_loop d L (lp := k0_t27_loop) (o5 := k0_off39) (o4 := k0_off40) 9 181 rfl (by decide +kernel) (by decide +kernel) k0_off40_eq copy_pay) fun _ => ?_
  refine seqF d L (hi_loop d L (lp := k0_t28_loop) (o5 := k0_off41) (o4 := k0_off42) 10 181 rfl (by decide +kernel) (by decide +kernel) k0_off42_eq copy_pay) fun _ => ?_
  refine seqF d L (hi_loop d L (lp := k0_t29_loop) (o5 := k0_off43) (o4 := k0_off44) 11 192 rfl (by decide +kernel) (by decide +kernel) k0_off44_eq copy_pay) fun _ => ?_
  refine seqF d L (hi_loop d L (lp := k0_t30_loop) (o5 := k0_off45) (o4 := k0_off46) 12 208 rfl (by decide +kernel) (by decide +kernel) k0_off46_eq copy_pay) fun _ => ?_
  refine seqF d L (hi_loop d L (lp := k0_t31_loop) (o5 := k0_off47) (o4 := k0_off48) 13 224 rfl (by decide +kernel) (by decide +kernel) k0_off48_eq copy_pay) fun _ => ?_
  refine seqF d L (hi_loop d L (lp := k0_t32_loop) (o5 := k0_off49) (o4 := k0_off50) 14 240 rfl (by decide +kernel) (by decide +kernel) k0_off50_eq copy_pay) fun _ => ?_
  refine seqF d L (hi_diag d L c0 c1 v10 t) fun _ => ?_
  dsimp only
  refine iteK d L (R := iprop(Band d L Finset.univ 128 (packed x (base L + t.val)) 128 181 0
        ∗ (Idle d L x s1 q1 ∗ Owing d L O W) ∗ H)) (fun h hk => ?_) (fun h => ?_) ?_
  · have h0 := (cond2_iff t).mp h
    refine (show _ ⊢ iprop((InSt d L x s1 nIn1 q1 In1 t.val ∗ Owing d L O W) ∗ Band d L In2 128 (packed x (base L + t.val)) 128 181 0 ∗ H) from by
      iintro ⟨H1, H2, H3⟩; iframe).trans ?_
    refine seqF d L (take_in d L h0 ht rfl) fun _ => ?_
    refine BIBase.Entails.trans ?_ hk
    iintro ⟨⟨H1, H2, H3⟩, ⟨H4, H5⟩, H6⟩
    ihave H1 := (row_split d L).2 $$ [H1 H4]
    · iframe
    unfold Band
    iframe
  · have h0 : t.val = 0 := by by_contra h0; exact h ((cond2_iff t).mpr h0)
    rw [InSt_zero h0]
    iintro ⟨⟨H1, H2⟩, ⟨⟨H3, H4⟩, H5⟩, H6⟩
    ihave H1 := (row_split d L).2 $$ [H1 H3]
    · iframe
    unfold Band
    iframe
  refine seqF d L (mid_loop d L (lp := k0_t34_loop) (o5 := k0_off54) (o4 := k0_off55) 0 128 rfl (by decide +kernel) (by decide +kernel) k0_off55_eq copy_pay) fun _ => ?_
  exact retV d L _

/-- The batch's fourth stretch: the rows from 128 on finished and sent, the second part of the next packed row asked for,
    the rows below 128 free again, and the first rows' first five loops. -/
theorem part4_wp (v10 v63 : BitVec 32) (t : Fin k0_t17_loop.trips) (H : sProp 𝕄) :
    iprop(Band d L Finset.univ 128 (packed x (base L + t.val)) 128 181 11
        ∗ (Idle d L x s2 q2 ∗ Ready d L x o0 sHi 128 t.val ∗ OutSt d L x o0 sLo (nOut L) 0 t.val ∗ Owing d L O W) ∗ H)
      ⊢ wpL d L (k0_part4 L xV (Memref.isWhole_whole _) oV (Memref.isWhole_whole _) tV (Memref.isWhole_whole _) rV (Memref.isWhole_whole _)
          cc0_scratch2 cc0_scratch3 cc0_scratch4 cc0_scratch5 lanes k0_pay34 t v10 v63 0#32 1#32)
          fun r => iprop(⌜r = 0#32⌝
            ∗ Band d L In1 0 (packed x (base L + t.val)) 0 128 5
            ∗ (InSt d L x s2 nIn2 q2 In2 (t.val + 1) ∗ OutSt d L x o0 sHi (nOut L) 128 (t.val + 1) ∗ Ready d L x o0 sLo 0 t.val ∗ Owing d L O W) ∗ H) := by
  have ht : t.val < 32 := t17_lt t
  rw [k0_part4_eq_skeleton]
  unfold k0_part4_skel
  refine seqF d L (mid_diag d L v10 v63 t) fun _ => ?_
  dsimp only
  refine (show _ ⊢ iprop((Full d L 128 (packed x (base L + t.val)) ∗ Ready d L x o0 sHi 128 t.val)
      ∗ Row d L Finset.univ (packed x (base L + t.val)) ∗ Idle d L x s2 q2 ∗ OutSt d L x o0 sLo (nOut L) 0 t.val ∗ Owing d L O W ∗ H) from by
    iintro ⟨⟨H1, H2⟩, ⟨H3, H4, H5, H6⟩, H7⟩; iframe).trans ?_
  refine seqF d L (start_out d L (N := nOut L) 128 (base L + t.val) (base_div L t) _ _ rfl _ _
    ((k0_off78_eq L t).trans (by rw [base_eq])) _ rfl) fun _ => ?_
  refine iteK d L (R := iprop(Row d L In1 (packed x (base L + t.val)) ∗ InSt d L x s2 nIn2 q2 In2 (t.val + 1)
      ∗ OutSt d L x o0 sHi (nOut L) 128 (t.val + 1) ∗ OutSt d L x o0 sLo (nOut L) 0 t.val ∗ Owing d L O W ∗ H)) (fun h hk => ?_) (fun h => ?_) ?_
  · have h1 := (cond3_iff t).mp h
    refine (show _ ⊢ iprop((Junk d L In2 ∗ Idle d L x s2 q2) ∗ Row d L In1 (packed x (base L + t.val))
        ∗ OutSt d L x o0 sHi (nOut L) 128 (t.val + 1) ∗ OutSt d L x o0 sLo (nOut L) 0 t.val ∗ Owing d L O W ∗ H) from by
      rw [OutSt_pos (sm := sHi) (k := t.val + 1) (by omega), Nat.add_sub_cancel]
      iintro ⟨H1, H2, H3, H4, H5, H6⟩
      ihave H2 := (row_split d L).1 $$ H2
      icases H2 with ⟨H7, H8⟩
      ihave H8 := (Row.junk d L) $$ H8
      iframe).trans ?_
    refine seqF d L (start_in d L (N := nIn2) 16512 (by decide) (base L + (t.val + 1)) 16384 _ _ ((k0_off79_eq L t).trans (by rw [base_eq, Nat.add_assoc])) _ _ rfl _
      (fun _ => mem_In2) rfl) fun _ => ?_
    refine BIBase.Entails.trans ?_ hk
    rw [InSt_pos (by omega) h1]
    iintro ⟨H1, H2, H3, H4, H5, H6⟩
    iframe
  · have h1 : 32 ≤ t.val + 1 := by by_contra h1; exact h ((cond3_iff t).mpr (by omega))
    rw [OutSt_pos (sm := sHi) (k := t.val + 1) (by omega), Nat.add_sub_cancel, InSt_last h1]
    iintro ⟨H1, H2, H3, H4, H5, H6⟩
    ihave H2 := (row_split d L).1 $$ H2
    icases H2 with ⟨H7, H8⟩
    ihave H8 := (Row.junk d L) $$ H8
    iframe
  refine iteK d L (R := iprop(Band d L In1 0 (packed x (base L + t.val)) 0 128 0
        ∗ (InSt d L x s2 nIn2 q2 In2 (t.val + 1) ∗ OutSt d L x o0 sHi (nOut L) 128 (t.val + 1) ∗ Ready d L x o0 sLo 0 t.val ∗ Owing d L O W) ∗ H))
    (fun h hk => ?_) (fun h => ?_) ?_
  · have h0 := (cond4_iff t).mp h
    refine (show _ ⊢ iprop((OutSt d L x o0 sLo (nOut L) 0 t.val ∗ Owing d L O W) ∗ Row d L In1 (packed x (base L + t.val))
        ∗ InSt d L x s2 nIn2 q2 In2 (t.val + 1) ∗ OutSt d L x o0 sHi (nOut L) 128 (t.val + 1) ∗ H) from by
      iintro ⟨H1, H2, H3, H4, H5, H6⟩; iframe).trans ?_
    refine seqF d L (take_out d L h0 rfl) fun _ => ?_
    refine BIBase.Entails.trans ?_ hk
    iintro ⟨⟨H1, H2, H3⟩, H4, H5, H6, H7⟩
    ihave H1 := (Clear.part d L (h := 0) (r0 := 0) (r1 := 128) (by decide) (g := packed x (base L + t.val))) $$ H1
    unfold Band
    iframe
  · have h0 : t.val = 0 := by by_contra h0; exact h ((cond4_iff t).mpr h0)
    rw [OutSt_zero h0]
    iintro ⟨H1, H2, H3, ⟨H4, H5⟩, H6, H7⟩
    ihave H4 := (Clear.part d L (h := 0) (r0 := 0) (r1 := 128) (by decide) (g := packed x (base L + t.val))) $$ H4
    unfold Band
    iframe
  refine seqF d L (lo_loop d L (lp := k0_t46_loop) (o5 := k0_off81) (o4 := k0_off82) 0 16 rfl (by decide +kernel) (by decide +kernel) k0_off82_eq copy_pay) fun _ => ?_
  refine seqF d L (lo_loop d L (lp := k0_t47_loop) (o5 := k0_off83) (o4 := k0_off84) 1 32 rfl (by decide +kernel) (by decide +kernel) k0_off84_eq copy_pay) fun _ => ?_
  refine seqF d L (lo_loop d L (lp := k0_t48_loop) (o5 := k0_off85) (o4 := k0_off86) 2 48 rfl (by decide +kernel) (by decide +kernel) k0_off86_eq copy_pay) fun _ => ?_
  refine seqF d L (lo_loop d L (lp := k0_t49_loop) (o5 := k0_off87) (o4 := k0_off88) 3 64 rfl (by decide +kernel) (by decide +kernel) k0_off88_eq copy_pay) fun _ => ?_
  refine seqF d L (lo_loop d L (lp := k0_t50_loop) (o5 := k0_off89) (o4 := k0_off90) 4 80 rfl (by decide +kernel) (by decide +kernel) k0_off90_eq copy_pay) fun _ => ?_
  exact retV d L _

/-- Everything the subcore holds before batch `k`. -/
def St (N k : ℕ) (q1 q2 : PosShare TreeShare) (O : CellTallies nD τ sig (HIx 1)) (W : Waits sig (HIx 1)) (x : Buf (Elt F) (xLoc d)) (o0 : Buf (Elt F) (oLoc d)) : sProp 𝕄 :=
  iprop(InSt d L x s1 nIn1 q1 In1 k ∗ InSt d L x s2 nIn2 q2 In2 k ∗ OutSt d L x o0 sHi N 128 k ∗ OutSt d L x o0 sLo N 0 k ∗ Owing d L O W)

/-- One batch. -/
theorem batch_wp (v2 c0 c1 : BitVec 32) (t : Fin k0_t17_loop.trips) (a : BitVec 32) :
    St d L (nOut L) t.val q1 q2 O W x o0
      ⊢ wpL d L (k0_t17_body L xV (Memref.isWhole_whole _) oV (Memref.isWhole_whole _) tV (Memref.isWhole_whole _) rV (Memref.isWhole_whole _)
          cc0_scratch2 cc0_scratch3 cc0_scratch4 cc0_scratch5 v2 lanes k0_pay34 c0 c1 t a)
          fun _ => St d L (nOut L) (t.val + 1) q1 q2 O W x o0 := by
  have ht : t.val < 32 := t17_lt t
  unfold k0_t17_body St
  refine (show _ ⊢ iprop((InSt d L x s2 nIn2 q2 In2 t.val ∗ OutSt d L x o0 sHi (nOut L) 128 t.val ∗ Owing d L O W)
      ∗ InSt d L x s1 nIn1 q1 In1 t.val ∗ OutSt d L x o0 sLo (nOut L) 0 t.val) from by
    iintro ⟨H1, H2, H3, H4, H5⟩; iframe).trans ?_
  refine seqA d L (part1_wp d L v2 t _) ?_
  refine (show _ ⊢ iprop(Band d L In2 128 (packed x (base L + t.val)) 181 256 8 ∗ (InSt d L x s1 nIn1 q1 In1 t.val ∗ Owing d L O W)
      ∗ Idle d L x s2 q2 ∗ Ready d L x o0 sHi 128 t.val ∗ OutSt d L x o0 sLo (nOut L) 0 t.val) from by
    iintro ⟨H1, ⟨H2, H3, H4⟩, H5, H6⟩; iframe).trans ?_
  refine seqA d L (part2_wp d L _ _ _ t _) ?_
  refine seqA d L (part3_wp d L _ _ _) ?_
  refine (show _ ⊢ iprop(Band d L Finset.univ 128 (packed x (base L + t.val)) 128 181 11
        ∗ (Idle d L x s2 q2 ∗ Ready d L x o0 sHi 128 t.val ∗ OutSt d L x o0 sLo (nOut L) 0 t.val ∗ Owing d L O W) ∗ Idle d L x s1 q1) from by
    iintro ⟨H1, ⟨H2, H3⟩, H4, H5, H6⟩; iframe).trans ?_
  refine seqA d L (part4_wp d L _ _ t _) ?_
  refine seqF d L (lo_loop d L (lp := k0_t51_loop) (o5 := k0_off91) (o4 := k0_off92) 5 96 rfl (by decide +kernel) (by decide +kernel) k0_off92_eq copy_pay) fun _ => ?_
  refine seqF d L (lo_loop d L (lp := k0_t52_loop) (o5 := k0_off93) (o4 := k0_off94) 6 112 rfl (by decide +kernel) (by decide +kernel) k0_off94_eq copy_pay) fun _ => ?_
  refine seqF d L (lo_diag d L v2 c0 c1) fun _ => ?_
  dsimp only
  refine (show _ ⊢ iprop((Full d L 0 (packed x (base L + t.val)) ∗ Ready d L x o0 sLo 0 t.val)
      ∗ Row d L In1 (packed x (base L + t.val)) ∗ Idle d L x s1 q1 ∗ InSt d L x s2 nIn2 q2 In2 (t.val + 1)
      ∗ OutSt d L x o0 sHi (nOut L) 128 (t.val + 1) ∗ Owing d L O W) from by
    iintro ⟨⟨H1, H2⟩, ⟨H3, H4, H5, H6⟩, H7⟩; iframe).trans ?_
  refine seqF d L (start_out d L (N := nOut L) 0 (base L + t.val) (base_div L t) _ _ rfl _ _
    ((k0_off97_eq L t).trans (by rw [base_eq])) _ rfl) fun _ => ?_
  refine iteK d L (R := St d L (nOut L) (t.val + 1) q1 q2 O W x o0) (fun h hk => ?_) (fun h => ?_) ?_
  · have h1 := (cond5_iff t).mp h
    refine (show _ ⊢ iprop((Junk d L In1 ∗ Idle d L x s1 q1) ∗ InSt d L x s2 nIn2 q2 In2 (t.val + 1)
        ∗ OutSt d L x o0 sHi (nOut L) 128 (t.val + 1) ∗ OutSt d L x o0 sLo (nOut L) 0 (t.val + 1) ∗ Owing d L O W) from by
      rw [OutSt_pos (sm := sLo) (k := t.val + 1) (by omega), Nat.add_sub_cancel]
      iintro ⟨H1, H2, H3, H4, H5, H6⟩
      ihave H2 := (Row.junk d L) $$ H2
      iframe).trans ?_
    refine seqF d L (start_in d L (N := nIn1) 16384 (by decide) (base L + (t.val + 1)) 0 _ _ ((k0_off98_eq L t).trans (by rw [base_eq, Nat.add_assoc])) _ _ rfl _
      (fun _ => mem_In1) rfl) fun _ => ?_
    refine BIBase.Entails.trans ?_ hk
    unfold St
    rw [InSt_pos (sm := s1) (by omega) h1]
  · have h1 : 32 ≤ t.val + 1 := by by_contra h1; exact h ((cond5_iff t).mpr (by omega))
    unfold St
    rw [OutSt_pos (sm := sLo) (k := t.val + 1) (by omega), Nat.add_sub_cancel, InSt_last (sm := s1) h1]
    iintro ⟨H1, H2, H3, H4, H5, H6⟩
    ihave H2 := (Row.junk d L) $$ H2
    iframe
  · unfold St
    refine (retV (F := F) d L 0#32).trans (wp_mono _ _ _ fun _ => ?_)
    iintro ⟨-, H⟩
    iexact H

end Cert.Proof.Tril

end
-- ==== Proof.Body.lean ====
/-
  The whole task of a subcore: the triangle zeroed while the first packed row arrives, the thirty-two batches, and the last
  two transfers awaited.
-/
module

public import proofs.«01_k».proof.Proof.Batch

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 eq_ix1 eq_ix2 eq_ix3)

variable {F : FTy → Type} [FloatOps F]

local notation "𝕄" => MT nD τ sig (HIx 1) (Elt F) ℕ UU ℕ

variable (d : Dev nD) (L : grid0.Coords)

variable {x : Buf (Elt F) (xLoc d)} {o0 : Buf (Elt F) (oLoc d)} {O : CellTallies nD τ sig (HIx 1)} {W : Waits sig (HIx 1)} {q1 q2 : PosShare TreeShare}

/-- The triangle with the columns below `16 j` zeroed. -/
abbrev Zeroed (j : ℕ) : sProp 𝕄 := Known d L Finset.univ (fun _ _ => (zero : F .f32)) (fun r c => r < 256 ∧ c < 16 * j)

theorem base_zero : 64 * (L 1).val + 32 * (L 0).val = base L := base_eq L 0

/-- The task's first stretch: the first packed row asked for, four columns' blocks zeroed. -/
theorem part5_wp (H : sProp 𝕄) :
    iprop((Junk d L In1 ∗ Idle d L x s1 q1) ∗ (Junk d L In2 ∗ Idle d L x s2 q2) ∗ Zeroed (F := F) d L 0 ∗ H)
      ⊢ wpL d L (k0_part5 L xV (Memref.isWhole_whole _) oV (Memref.isWhole_whole _) tV (Memref.isWhole_whole _) rV (Memref.isWhole_whole _)
          cc0_scratch2 cc0_scratch3 cc0_scratch4 cc0_scratch5)
          fun r => iprop(⌜r = ⟨Scalar.muli (Scalar.addi (Scalar.muli (BitVec.ofNat 32 (L 1).val) 2#32) (BitVec.ofNat 32 (L 0).val)) 32#32,
              lanes, k0_pay34, 0#32, 1#32⟩⌝
            ∗ Zeroed (F := F) d L 4 ∗ FlightIn d L s1 nIn1 q1 x In1 (base L) ∗ FlightIn d L s2 nIn2 q2 x In2 (base L) ∗ H) := by
  rw [k0_part5_eq_skeleton]
  unfold k0_part5_skel
  dsimp only
  refine seqF d L (start_in d L (N := nIn1) 16384 (by decide) (base L) 0 _ _ ((k0_off1_eq L).trans (by rw [base_zero])) _ _ rfl _
    (fun _ => mem_In1) rfl) fun _ => ?_
  refine (show _ ⊢ iprop((Junk d L In2 ∗ Idle d L x s2 q2) ∗ FlightIn d L s1 nIn1 q1 x In1 (base L) ∗ Zeroed (F := F) d L 0 ∗ H) from by
    iintro ⟨H1, H2, H3, H4⟩; iframe).trans ?_
  refine seqF d L (start_in d L (N := nIn2) 16512 (by decide) (base L) 16384 _ _ ((k0_off2_eq L).trans (by rw [base_zero])) _ _ rfl _
    (fun _ => mem_In2) rfl) fun _ => ?_
  refine (show _ ⊢ iprop(Zeroed (F := F) d L 0 ∗ FlightIn d L s1 nIn1 q1 x In1 (base L) ∗ FlightIn d L s2 nIn2 q2 x In2 (base L) ∗ H) from by
    iintro ⟨H1, H2, H3, H4⟩; iframe).trans ?_
  refine seqF d L (zero_cols d L k0_t1_loop _ k0_off3 _ _ 0 (by decide +kernel) k0_off3_eq zero_pay) fun _ => ?_
  refine seqF d L (zero_cols d L k0_t2_loop _ k0_off4 _ _ 1 (by decide +kernel) k0_off4_eq zero_pay) fun _ => ?_
  refine seqF d L (zero_cols d L k0_t3_loop _ k0_off5 _ _ 2 (by decide +kernel) k0_off5_eq zero_pay) fun _ => ?_
  refine seqF d L (zero_cols d L k0_t4_loop _ k0_off6 _ _ 3 (by decide +kernel) k0_off6_eq zero_pay) fun _ => ?_
  exact retV d L _

/-- The task's second stretch: ten more columns' blocks zeroed. -/
theorem part6_wp (c0 c1 : BitVec 32) (H : sProp 𝕄) :
    iprop(Zeroed (F := F) d L 4 ∗ H)
      ⊢ wpL d L (k0_part6 L xV (Memref.isWhole_whole _) oV (Memref.isWhole_whole _) tV (Memref.isWhole_whole _) rV (Memref.isWhole_whole _)
          cc0_scratch2 cc0_scratch3 cc0_scratch4 cc0_scratch5 k0_pay34 c0 c1)
          fun r => iprop(⌜r = ⟨0#32, 1#32⟩⌝ ∗ Zeroed (F := F) d L 14 ∗ H) := by
  rw [k0_part6_eq_skeleton]
  unfold k0_part6_skel
  refine seqF d L (zero_cols d L k0_t5_loop _ k0_off7 _ _ 4 (by decide +kernel) k0_off7_eq zero_pay) fun _ => ?_
  refine seqF d L (zero_cols d L k0_t6_loop _ k0_off8 _ _ 5 (by decide +kernel) k0_off8_eq zero_pay) fun _ => ?_
  refine seqF d L (zero_cols d L k0_t7_loop _ k0_off9 _ _ 6 (by decide +kernel) k0_off9_eq zero_pay) fun _ => ?_
  refine seqF d L (zero_cols d L k0_t8_loop _ k0_off10 _ _ 7 (by decide +kernel) k0_off10_eq zero_pay) fun _ => ?_
  refine seqF d L (zero_cols d L k0_t9_loop _ k0_off11 _ _ 8 (by decide +kernel) k0_off11_eq zero_pay) fun _ => ?_
  refine seqF d L (zero_cols d L k0_t10_loop _ k0_off12 _ _ 9 (by decide +kernel) k0_off12_eq zero_pay) fun _ => ?_
  refine seqF d L (zero_cols d L k0_t11_loop _ k0_off13 _ _ 10 (by decide +kernel) k0_off13_eq zero_pay) fun _ => ?_
  refine seqF d L (zero_cols d L k0_t12_loop _ k0_off14 _ _ 11 (by decide +kernel) k0_off14_eq zero_pay) fun _ => ?_
  refine seqF d L (zero_cols d L k0_t13_loop _ k0_off15 _ _ 12 (by decide +kernel) k0_off15_eq zero_pay) fun _ => ?_
  refine seqF d L (zero_cols d L k0_t14_loop _ k0_off16 _ _ 13 (by decide +kernel) k0_off16_eq zero_pay) fun _ => ?_
  exact retV d L _

/-- The zeroed triangle is its two halves between two batches. -/
theorem Zeroed.clear : Zeroed (F := F) d L 16 ⊢ (iprop(Clear d L 128 ∗ Clear d L 0) : sProp 𝕄) := by
  have e : (Finset.univ : Finset S256x256.Idx) = Half 128 ∪ Half 0 := by
    ext i
    have : (i 0).val < 256 := (i 0).isLt
    simp only [Finset.mem_univ, Finset.mem_union, mem_Half, true_iff]
    omega
  have hd : Disjoint (Half 128) (Half 0) := Finset.disjoint_left.mpr fun i h h' => by
    rw [mem_Half] at h h'; omega
  have hk : ∀ i : S256x256.Idx, (i 0).val < 256 ∧ (i 1).val < 16 * 16 := fun i =>
    ⟨(i 0).isLt, show (i 1).val < 256 from (i 1).isLt⟩
  refine (Known.elim d L).trans ?_
  unfold Clear Known
  iintro ⟨%f, %hf, H⟩
  rw [e]
  ihave H := (pointsTo_union hd).1 $$ H
  icases H with ⟨H1, H2⟩
  isplitl [H1]
  · iexists f
    isplitr
    · ipureintro; exact fun i _ _ => hf i (Finset.mem_univ _) (hk i)
    iexact H1
  · iexists f
    isplitr
    · ipureintro; exact fun i _ _ => hf i (Finset.mem_univ _) (hk i)
    iexact H2

/-- The thirty-two batches. -/
theorem batches (v2 c0 c1 : BitVec 32) :
    St d L (nOut L) 0 q1 q2 O W x o0
      ⊢ wpL d L (Scf.Loop.for k0_t17_loop k0_t17_ok 0#32 (k0_t17_body L xV (Memref.isWhole_whole _) oV (Memref.isWhole_whole _) tV (Memref.isWhole_whole _) rV (Memref.isWhole_whole _)
          cc0_scratch2 cc0_scratch3 cc0_scratch4 cc0_scratch5 v2 lanes k0_pay34 c0 c1))
          fun _ => St d L (nOut L) 32 q1 q2 O W x o0 := by
  show _ ⊢ wp frame (wpE (defs₀ (F := F)) 𝒱₀ (thr d L) none) Set.univ _ _
  refine BIBase.Entails.trans ?_ (Scf.wp_for frame (wpE (defs₀ (F := F)) 𝒱₀ (thr d L) none) Set.univ k0_t17_loop.lb k0_t17_loop.ub k0_t17_loop.st k0_t17_ok 0#32
    (k0_t17_body L xV (Memref.isWhole_whole _) oV (Memref.isWhole_whole _) tV (Memref.isWhole_whole _) rV (Memref.isWhole_whole _)
          cc0_scratch2 cc0_scratch3 cc0_scratch4 cc0_scratch5 v2 lanes k0_pay34 c0 c1)
    (fun k _ => St d L (nOut L) k q1 q2 O W x o0) fun t a => batch_wp d L v2 c0 c1 t a)
  iintro H
  isplitl [H]; · iexact H
  iintro %a H
  iexact H

/-- The task's third stretch: the last two columns' blocks zeroed, the first packed row in place, the thirty-two batches, and
    the rows from 128 on of the last result in place. -/
theorem part7_wp (v2 c0 c1 : BitVec 32) :
    iprop(Zeroed (F := F) d L 14 ∗ FlightIn d L s1 nIn1 q1 x In1 (base L) ∗ FlightIn d L s2 nIn2 q2 x In2 (base L)
        ∗ Ready d L x o0 sHi 128 0 ∗ Ready d L x o0 sLo 0 0 ∗ Owing d L O W)
      ⊢ wpL d L (k0_part7 L xV (Memref.isWhole_whole _) oV (Memref.isWhole_whole _) tV (Memref.isWhole_whole _) rV (Memref.isWhole_whole _)
          cc0_scratch2 cc0_scratch3 cc0_scratch4 cc0_scratch5 v2 lanes k0_pay34 c0 c1)
          fun r => iprop(⌜r = ⟨⟩⌝ ∗ (OutSt d L x o0 sLo (nOut L) 0 32 ∗ Owing d L O W)
            ∗ InSt d L x s1 nIn1 q1 In1 32 ∗ InSt d L x s2 nIn2 q2 In2 32 ∗ Clear d L 128 ∗ Ready d L x o0 sHi 128 32) := by
  rw [k0_part7_eq_skeleton]
  unfold k0_part7_skel
  refine seqF d L (zero_cols d L k0_t15_loop _ k0_off17 _ _ 14 (by decide +kernel) k0_off17_eq zero_pay) fun _ => ?_
  refine seqF d L (zero_cols d L k0_t16_loop _ k0_off18 _ _ 15 (by decide +kernel) k0_off18_eq zero_pay) fun _ => ?_
  refine (show _ ⊢ iprop((FlightIn d L s1 nIn1 q1 x In1 (base L) ∗ Owing d L O W) ∗ Zeroed (F := F) d L 16 ∗ FlightIn d L s2 nIn2 q2 x In2 (base L)
        ∗ Ready d L x o0 sHi 128 0 ∗ Ready d L x o0 sLo 0 0) from by
    iintro ⟨H1, H2, H3, H4, H5, H6⟩; iframe).trans ?_
  refine seqF d L (wait_in d L rfl) fun _ => ?_
  refine (show _ ⊢ iprop((FlightIn d L s2 nIn2 q2 x In2 (base L) ∗ Owing d L O W) ∗ (Row d L In1 (packed x (base L)) ∗ Idle d L x s1 q1) ∗ Zeroed (F := F) d L 16
        ∗ Ready d L x o0 sHi 128 0 ∗ Ready d L x o0 sLo 0 0) from by
    unfold Idle
    iintro ⟨⟨H1, H2, H3⟩, H4, H5, H6, H7⟩; iframe).trans ?_
  refine seqF d L (wait_in d L rfl) fun _ => ?_
  refine (show _ ⊢ iprop(St d L (nOut L) 0 q1 q2 O W x o0 ∗ emp) from by
    unfold St
    rw [InSt_zero rfl, InSt_zero rfl, OutSt_zero rfl, OutSt_zero rfl]
    unfold Idle
    iintro ⟨⟨H1, H2, H3⟩, ⟨H4, H5⟩, H6, H7, H8⟩
    ihave H6 := (Zeroed.clear d L) $$ H6
    icases H6 with ⟨H6, H9⟩
    iframe).trans ?_
  refine seqF d L (batches d L v2 c0 c1) fun _ => ?_
  refine (show _ ⊢ iprop((OutSt d L x o0 sHi (nOut L) 128 32 ∗ Owing d L O W) ∗ OutSt d L x o0 sLo (nOut L) 0 32
      ∗ InSt d L x s1 nIn1 q1 In1 32 ∗ InSt d L x s2 nIn2 q2 In2 32) from by
    unfold St
    iintro ⟨⟨H1, H2, H3, H4, H5⟩, -⟩; iframe).trans ?_
  refine seqF d L (take_out d L (by decide) rfl) fun _ => ?_
  refine (show _ ⊢ iprop((OutSt d L x o0 sLo (nOut L) 0 32 ∗ Owing d L O W)
            ∗ InSt d L x s1 nIn1 q1 In1 32 ∗ InSt d L x s2 nIn2 q2 In2 32 ∗ Clear d L 128 ∗ Ready d L x o0 sHi 128 32) from by
    iintro ⟨⟨H1, H2, H3⟩, H4, H5, H6⟩; iframe).trans ?_
  exact retV d L _

/-- The task: from its share of the packed rows and its thirty-two results, whatever they hold, to those results in place. -/
theorem body_wp :
    iprop((Junk d L In1 ∗ Idle d L x s1 q1) ∗ (Junk d L In2 ∗ Idle d L x s2 q2) ∗ Zeroed (F := F) d L 0
        ∗ Ready d L x o0 sHi 128 0 ∗ Ready d L x o0 sLo 0 0 ∗ Owing d L O W)
      ⊢ wpL d L (cc0__sc_body L xV (Memref.isWhole_whole _) oV (Memref.isWhole_whole _) tV (Memref.isWhole_whole _) rV (Memref.isWhole_whole _)
          cc0_scratch2 cc0_scratch3 cc0_scratch4 cc0_scratch5)
          fun _ => iprop((Junk d L In1 ∗ Idle d L x s1 q1) ∗ (Junk d L In2 ∗ Idle d L x s2 q2) ∗ Clear d L 128 ∗ Clear d L 0
            ∗ Ready d L x o0 sHi 128 32 ∗ Ready d L x o0 sLo 0 32 ∗ Owing d L O W) := by
  rw [cc0__sc_body_eq_skeleton]
  unfold cc0__sc_body_skel
  refine seqA d L (part5_wp d L _) ?_
  refine seqA d L (part6_wp d L _ _ _) ?_
  refine seqA d L (part7_wp d L _ _ _) ?_
  refine seqF d L (take_out d L (by decide) rfl) fun _ => ?_
  refine (retV (F := F) d L PUnit.unit).trans (wp_mono _ _ _ fun _ => ?_)
  rw [InSt_last (Nat.le_refl _), InSt_last (Nat.le_refl _)]
  iintro ⟨-, ⟨H1, H2, H3⟩, H4, H5, H6, H7⟩
  iframe

end Cert.Proof.Tril
-- ==== Proof.Tile.lean ====
/-
  A subcore's task as the launch sees it: from its share of the packed rows, its thirty-two results, its memory and its
  semaphores, to the same with the results in place.
-/
module

public import proofs.«01_k».proof.Proof.Body
public import Idealize.ShloMosaic.Lib.ShareLeaves

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 ix3 eq_ix1 eq_ix2 eq_ix3)

variable {F : FTy → Type} [FloatOps F]

local notation "𝕄" => MT nD τ sig (HIx 1) (Elt F) ℕ UU ℕ

variable (d : Dev nD) (L : grid0.Coords)

open Idealize.ShloMosaic.ShareLeaves (leaf pointsTo_leaves)

/-! ## The results of one subcore -/

/-- The thirty-two results of subcore `i` of SparseCore `c`. -/
def Own (c i : ℕ) : Finset S1024x256x256.Idx := Finset.univ.filter fun j => (j 0).val / 32 = 2 * i + c

theorem mem_Own {c i : ℕ} {j : S1024x256x256.Idx} : j ∈ Own c i ↔ (j 0).val / 32 = 2 * i + c := by simp [Own]

theorem Own_eq : Own (L 0).val (L 1).val = Out L 128 ∪ Out L 0 := by
  ext j
  have : (j 1).val < 256 := (j 1).isLt
  simp only [mem_Own, Finset.mem_union, mem_Out, wid]
  omega

theorem Out_disjoint : Disjoint (Out L 128) (Out L 0) := Finset.disjoint_left.mpr fun i h h' => by
  rw [mem_Out] at h h'; omega

/-- Before the first batch the results are as they were. -/
theorem upTo_first {x : Buf (Elt F) (xLoc d)} {o0 : Buf (Elt F) (oLoc d)} {h : ℕ} :
    (oLoc d ↦[Out L h]{fullShare} upTo d x o0 (base L + 0) : sProp 𝕄) = oLoc d ↦[Out L h]{fullShare} o0 :=
  pointsTo_congr fun (i : S1024x256x256.Idx) hi => if_neg (by
    have := ((mem_Out L).mp hi).1
    unfold base; omega)

/-- After the last the results are in place. -/
theorem upTo_last {x : Buf (Elt F) (xLoc d)} {o0 : Buf (Elt F) (oLoc d)} {h : ℕ} :
    (oLoc d ↦[Out L h]{fullShare} upTo d x o0 (base L + 32) : sProp 𝕄) = oLoc d ↦[Out L h]{fullShare} (spec x : Buf (Elt F) (oLoc d)) :=
  pointsTo_congr fun (i : S1024x256x256.Idx) hi => if_pos (by
    have := ((mem_Out L).mp hi).1
    unfold base; omega)

/-- The results of one subcore, before. -/
theorem own_first {x : Buf (Elt F) (xLoc d)} {o0 : Buf (Elt F) (oLoc d)} :
    (oLoc d ↦[Own (L 0).val (L 1).val]{fullShare} o0 : sProp 𝕄)
      ⊢ iprop((oLoc d ↦[Out L 128]{fullShare} upTo d x o0 (base L + 0)) ∗ oLoc d ↦[Out L 0]{fullShare} upTo d x o0 (base L + 0)) := by
  rw [upTo_first, upTo_first, Own_eq]
  exact (pointsTo_union (Out_disjoint L)).1

/-- The results of one subcore, after. -/
theorem own_last {x : Buf (Elt F) (xLoc d)} {o0 : Buf (Elt F) (oLoc d)} :
    iprop((oLoc d ↦[Out L 128]{fullShare} upTo d x o0 (base L + 32)) ∗ oLoc d ↦[Out L 0]{fullShare} upTo d x o0 (base L + 32))
      ⊢ (oLoc d ↦[Own (L 0).val (L 1).val]{fullShare} (spec x : Buf (Elt F) (oLoc d)) : sProp 𝕄) := by
  rw [upTo_last, upTo_last, Own_eq]
  exact (pointsTo_union (Out_disjoint L)).2

/-! ## Its memory -/

theorem tri_first (f : Buf (Elt F) (tLoc d L)) : (tLoc d L ↦{fullShare} f : sProp 𝕄) ⊢ Zeroed (F := F) d L 0 := by
  show _ ⊢ Known d L Finset.univ (fun _ _ => (zero : F .f32)) (fun r c => r < 256 ∧ c < 16 * 0)
  unfold Known
  iintro H
  iexists f
  isplitr
  · ipureintro; exact fun i _ hi => absurd hi.2 (by omega)
  iexact H

theorem tri_last : iprop(Clear (F := F) d L 128 ∗ Clear (F := F) d L 0) ⊢ (iprop(∃ f : Buf (Elt F) (tLoc d L), tLoc d L ↦{fullShare} f) : sProp 𝕄) := by
  have e : (Finset.univ : Finset S256x256.Idx) = Half 128 ∪ Half 0 := by
    ext i
    have : (i 0).val < 256 := (i 0).isLt
    simp only [Finset.mem_univ, Finset.mem_union, mem_Half, true_iff]
    omega
  have hd : Disjoint (Half 128) (Half 0) := Finset.disjoint_left.mpr fun i h h' => by
    rw [mem_Half] at h h'; omega
  refine (BIClass.sep_mono (Known.elim d L) (Known.elim d L)).trans ?_
  iintro ⟨⟨%f, -, H1⟩, %g, -, H2⟩
  ihave H := (pointsTo_join (ℓ := tLoc d L) hd) $$ [H1 H2]
  · iframe
  rw [← e]
  iexists _
  iexact H

theorem In_union : (Finset.univ : Finset S32896.Idx) = In1 ∪ In2 := by
  ext i
  simp only [Finset.mem_univ, Finset.mem_union, mem_In1, mem_In2, true_iff]
  have : (i 0).val < 32896 := (i 0).isLt
  omega
theorem In_disjoint : Disjoint In1 In2 := Finset.disjoint_left.mpr fun i h h' => by
  rw [mem_In1] at h; rw [mem_In2] at h'; omega

theorem row_first (f : Buf (Elt F) (rLoc d L)) : (rLoc d L ↦{fullShare} f : sProp 𝕄) ⊢ iprop(Junk (F := F) d L In1 ∗ Junk (F := F) d L In2) := by
  unfold Junk
  refine (show _ ⊢ (rLoc d L ↦[In1 ∪ In2]{fullShare} f : sProp 𝕄) from Entails.of_eq (by rw [← In_union])).trans ?_
  refine (pointsTo_union In_disjoint).1.trans ?_
  iintro ⟨H1, H2⟩
  isplitl [H1] <;> (iexists f; iassumption)

theorem row_last : iprop(Junk (F := F) d L In1 ∗ Junk (F := F) d L In2) ⊢ (iprop(∃ f : Buf (Elt F) (rLoc d L), rLoc d L ↦{fullShare} f) : sProp 𝕄) := by
  unfold Junk
  iintro ⟨⟨%f, H1⟩, %g, H2⟩
  ihave H := (pointsTo_join (ℓ := rLoc d L) In_disjoint) $$ [H1 H2]
  · iframe
  rw [← In_union]
  iexists _
  iexact H

/-! ## Its semaphores and buffers, out of all of the thread's -/

abbrev gA : GSem nD τ sig := (thr d L, .dma s1)
abbrev gB : GSem nD τ sig := (thr d L, .dma s2)
abbrev gC : GSem nD τ sig := (thr d L, .dma sHi)
abbrev gD : GSem nD τ sig := (thr d L, .dma sLo)

/-- The cells of the thread other than the four transfers'. -/
abbrev restCells : Finset (GSem nD τ sig) := ((((ownCells (thr d L)).erase (gA d L)).erase (gB d L)).erase (gC d L)).erase (gD d L)

theorem sems_eq :
    (ownSems0 (thr d L) : sProp 𝕄)
      = iprop(semVal (gA d L) 0 ∗ semVal (gB d L) 0 ∗ semVal (gC d L) 0 ∗ semVal (gD d L) 0 ∗ bigSep (restCells d L) fun g => semVal g 0) := by
  have own : ∀ s : DmaSem sig, (SemLoc.dma s : SemLoc sig).isScoped .scVector = true → ((thr d L, SemLoc.dma s) : GSem nD τ sig) ∈ ownCells (thr d L) :=
    fun s hs => mem_ownCells.mpr ⟨rfl, hs⟩
  have ne : ∀ s s' : DmaSem sig, s ≠ s' → ((thr d L, SemLoc.dma s) : GSem nD τ sig) ≠ (thr d L, SemLoc.dma s') :=
    fun s s' h e => h (SemLoc.dma.inj (Prod.mk.inj e).2)
  unfold SparseCore.Cfg.ownSems0
  rw [SparseCore.bigSep_erase' (own s1 (by decide)),
    SparseCore.bigSep_erase' (Finset.mem_erase.mpr ⟨ne s2 s1 (by decide), own s2 (by decide)⟩),
    SparseCore.bigSep_erase' (Finset.mem_erase.mpr ⟨ne sHi s2 (by decide), Finset.mem_erase.mpr ⟨ne sHi s1 (by decide), own sHi (by decide)⟩⟩),
    SparseCore.bigSep_erase' (Finset.mem_erase.mpr ⟨ne sLo sHi (by decide), Finset.mem_erase.mpr ⟨ne sLo s2 (by decide),
      Finset.mem_erase.mpr ⟨ne sLo s1 (by decide), own sLo (by decide)⟩⟩⟩)]

/-- The thread's other buffers. -/
abbrev restRefs : Finset (DevRef τ sig) :=
  ((ownRefs (τ := τ) (.scVector (cV L) (jV L))).erase ((Proc.scVector (cV L) (jV L)).devRef cc0_scratch0)).erase
    ((Proc.scVector (cV L) (jV L)).devRef cc0_scratch1)

theorem bufs_eq :
    (ownBufs (thr d L) : sProp 𝕄)
      = iprop((∃ f, tLoc d L ↦{fullShare} f) ∗ (∃ f, rLoc d L ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e)
    (show (cc0_scratch1 : Ref sig .scVector) ≠ cc0_scratch0 by decide), SparseCore.Cfg.mem_ownRefs_of_owner (p := Proc.scVector (cV L) (jV L))
      (b := (Proc.scVector (cV L) (jV L)).devRef cc0_scratch1) rfl⟩)]

/-! ## The task -/

/-- The subcore's share of the packed rows. -/
abbrev shareOf (c : Fin 2) (i : Fin 16) : PosShare TreeShare := leaf 4 (leaf 1 fullShare c) i

theorem bound_zero : grid0.bound 0 = 2 := rfl
theorem bound_one : grid0.bound 1 = 16 := rfl

/-- A share of the packed rows `x`. -/
abbrev xPts (q : PosShare TreeShare) (x : Buf (Elt F) (xLoc d)) : sProp 𝕄 := xLoc d ↦{q} x
/-- The results of subcore `i` of SparseCore `c`, holding those of `f`. -/
abbrev oPts (c i : ℕ) (f : Buf (Elt F) (oLoc d)) : sProp 𝕄 := oLoc d ↦[Own c i]{fullShare} f

variable (m : (ℓ : Loc nD τ sig) → Buf (Elt F) ℓ)

set_option maxHeartbeats 1000000 in
/-- The task of the subcore at grid point `L`: it faults nowhere, its waits are answered, it gives back what it was handed,
    and its thirty-two results are then the packed rows unpacked. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (xPts d q (m (xLoc d)) ∗ oPts d (L 0).val (L 1).val (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (cc0__sc_body L xV (Memref.isWhole_whole _) oV (Memref.isWhole_whole _) tV (Memref.isWhole_whole _) rV (Memref.isWhole_whole _)
          cc0_scratch2 cc0_scratch3 cc0_scratch4 cc0_scratch5)
          fun _ => iprop((xPts d q (m (xLoc d)) ∗ oPts d (L 0).val (L 1).val (spec (m (xLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), sems_eq, bufs_eq]
  have hx : (xLoc d ↦{q} m (xLoc d) : sProp 𝕄) ⊣⊢ iprop((xLoc d ↦{q.left} m (xLoc d)) ∗ xLoc d ↦{q.right} m (xLoc d)) :=
    pointsTo_share (PosShare.mem_left_op_right q)
  refine BIBase.Entails.trans (show _ ⊢ (iprop(
      ((Junk d L In1 ∗ Idle d L (m (xLoc d)) s1 q.left) ∗ (Junk d L In2 ∗ Idle d L (m (xLoc d)) s2 q.right) ∗ Zeroed (F := F) d L 0
        ∗ Ready d L (m (xLoc d)) (m (oLoc d)) sHi 128 0 ∗ Ready d L (m (xLoc d)) (m (oLoc d)) sLo 0 0 ∗ Owing d L O W)
      ∗ ((bigSep (restRefs L) fun b => iprop(∃ f, ((d, b) : Loc nD τ sig) ↦{fullShare} f)) ∗ bigSep (restCells d L) fun g => semVal g 0)) : sProp 𝕄) from ?_)
    ((BIClass.sep_mono (body_wp d L) (Entails.of_eq rfl)).trans ((wp_frame_r _ _ _).trans (wp_mono _ _ _ fun _ => ?_)))
  · unfold Idle Ready Owing
    iintro ⟨#Hlv, -, ⟨Hx, Ho⟩, ⟨⟨%ft, Ht⟩, ⟨%fr, Hr⟩, Hbufs⟩, ⟨HA, HB, HC, HD, Hsems⟩, HO⟩
    ihave #Hmw := (show levAts (K (F := F)).L (K (F := F)).lev ⊢ Transfers.MayWaits (thr d L) (none : HIx 1) O from
      (K (F := F)).mayWaits_none (thr := thr d L) hO) $$ Hlv
    ihave Hx := hx.1 $$ Hx
    icases Hx with ⟨Hx1, Hx2⟩
    ihave Ho := (own_first d L (x := m (xLoc d))) $$ Ho
    icases Ho with ⟨Ho1, Ho2⟩
    ihave Ht := (tri_first d L ft) $$ Ht
    ihave Hr := (row_first d L fr) $$ Hr
    icases Hr with ⟨Hr1, Hr2⟩
    iframe
    isplitr; · iexact Hmw
    iexists W
    isplitr
    · ipureintro; exact fun p hp => .inl hp
    iexact HO
  · unfold Idle Ready Owing
    iintro ⟨⟨⟨Hr1, Hx1, HA⟩, ⟨Hr2, Hx2, HB⟩, Ht1, Ht2, ⟨Ho1, HC⟩, ⟨Ho2, HD⟩, -, HO⟩, Hbufs, Hsems⟩
    ihave Hx := hx.2 $$ [Hx1 Hx2]
    · iframe
    ihave Ho := (own_last d L (x := m (xLoc d)) (o0 := m (oLoc d))) $$ [Ho1 Ho2]
    · iframe
    ihave Ht := (tri_last d L) $$ [Ht1 Ht2]
    · iframe
    ihave Hr := (row_last d L) $$ [Hr1 Hr2]
    · iframe
    iframe

end Cert.Proof.Tril
-- ==== Proof.Launch.lean ====
/-
  The launch: the packed rows and the results dealt to the two SparseCores and their sixteen subcores each, the tasks run,
  the results gathered; and the run of the whole program that follows.
-/
module

public import proofs.«01_k».proof.Proof.Tile

@[expose] public section

noncomputable section

namespace Cert.Proof.Tril

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.ShareLeaves (leaf pointsTo_leaves)
open Idealize.ShloMosaic.ValueIdx (ix1 ix2 ix3 eq_ix1 eq_ix2 eq_ix3)

variable {F : FTy → Type}

local notation "𝕄" => MT nD τ sig (HIx 1) (Elt F) ℕ UU ℕ

/-- The call's protocol has the semaphores and buffers it needs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_two : (K (F := F)).nCore 0 = 2 := rfl
theorem nSub_sixteen : (K (F := F)).nSub 0 = 16 := rfl

variable [FloatOps F] (m : (ℓ : Loc nD τ sig) → Buf (Elt F) ℓ) (ρ : Dev nD → PrngReg)

/-! ## How the results are dealt -/

/-- The results of SparseCore `c`. -/
def OwnC (c : ℕ) : Finset S1024x256x256.Idx := Finset.univ.filter fun j => (j 0).val / 32 % 2 = c

theorem Own_disjoint (c : ℕ) : ∀ i ∈ (Finset.univ : Finset (Fin 16)), ∀ j ∈ (Finset.univ : Finset (Fin 16)), i ≠ j →
    Disjoint (Own c i.val) (Own c j.val) := fun i _ j _ h => Finset.disjoint_left.mpr fun k hi hj => by
  rw [mem_Own] at hi hj
  exact h (Fin.ext (by omega))

theorem Own_cover (c : Fin 2) : (Finset.univ : Finset (Fin 16)).biUnion (fun i => Own c.val i.val) = OwnC c.val := by
  ext j
  have hj : (j 0).val < 1024 := (j 0).isLt
  have hc := c.isLt
  simp only [Finset.mem_biUnion, Finset.mem_univ, true_and, mem_Own, OwnC, Finset.mem_filter]
  constructor
  · rintro ⟨i, hi⟩; omega
  · intro h; exact ⟨⟨(j 0).val / 32 / 2, by omega⟩, by show (j 0).val / 32 = 2 * ((j 0).val / 32 / 2) + c.val; omega⟩

theorem OwnC_disjoint : ∀ c ∈ (Finset.univ : Finset (Fin 2)), ∀ c' ∈ (Finset.univ : Finset (Fin 2)), c ≠ c' →
    Disjoint (OwnC c.val) (OwnC c'.val) := fun c _ c' _ h => Finset.disjoint_left.mpr fun k hi hj => by
  simp only [OwnC, Finset.mem_filter, Finset.mem_univ, true_and] at hi hj
  exact h (Fin.ext (by omega))

theorem OwnC_cover : (Finset.univ : Finset (Fin 2)).biUnion (fun c => OwnC c.val) = Finset.univ := by
  ext j
  simp only [Finset.mem_biUnion, Finset.mem_univ, true_and, OwnC, Finset.mem_filter, iff_true]
  exact ⟨⟨(j 0).val / 32 % 2, by omega⟩, rfl⟩

/-- The results of SparseCore `c`, holding those of `f`. -/
abbrev oCore (d : Dev nD) (c : ℕ) (f : Buf (Elt F) (oLoc d)) : sProp 𝕄 := oLoc d ↦[OwnC c]{fullShare} f

theorem oCore_tiles (d : Dev nD) (c : Fin 2) (f : Buf (Elt F) (oLoc d)) :
    oCore d c.val f = bigSep Finset.univ fun i : Fin 16 => oPts d c.val i.val f := by
  unfold oCore oPts
  rw [← pointsTo_biUnion Finset.univ (ℓ := oLoc d) (fun i : Fin 16 => Own c.val i.val) (Own_disjoint c.val), Own_cover]

theorem o_cores (d : Dev nD) (f : Buf (Elt F) (oLoc d)) :
    (oLoc d ↦{fullShare} f : sProp 𝕄) = bigSep Finset.univ fun c : Fin 2 => oCore d c.val f := by
  unfold oCore
  rw [← pointsTo_biUnion Finset.univ (ℓ := oLoc d) (fun c : Fin 2 => OwnC c.val) OwnC_disjoint, OwnC_cover]

theorem xPts_leaves (d : Dev nD) (n : ℕ) (q : PosShare TreeShare) (x : Buf (Elt F) (xLoc d)) :
    xPts d q x = bigSep Finset.univ fun i : Fin (2 ^ n) => xPts d (leaf n q i) x :=
  pointsTo_leaves Finset.univ x n q

/-! ## What the handshakes carry -/

/-- SparseCore `c`'s part: half the share of the packed rows, its results holding those of `f`. -/
abbrev coreOf (d : Dev nD) (c : Fin 2) (f : Buf (Elt F) (oLoc d)) : sProp 𝕄 :=
  iprop(xPts d (leaf 1 fullShare c) (m (xLoc d)) ∗ oCore d c.val f)
/-- Subcore `i` of SparseCore `c`'s part: a sixteenth of that share, its thirty-two results holding those of `f`. -/
abbrev tileOf (d : Dev nD) (c : Fin 2) (i : Fin 16) (f : Buf (Elt F) (oLoc d)) : sProp 𝕄 :=
  iprop(xPts d (shareOf c i) (m (xLoc d)) ∗ oPts d c.val i.val f)

/-- The packed rows unpacked. -/
abbrev result (d : Dev nD) : Buf (Elt F) (oLoc d) := spec (m (xLoc d))

/-- The one call hands every subcore its share of the packed rows and its results, and takes them back in place. -/
def P : (K (F := F)).Pay (nD := nD) (Val := Elt F) (Name := ℕ) (U := UU) where
  st := fun q d c => match q with | 0 => coreOf m d (Fin.cast nCore_two c) (m (oLoc d))
  dn := fun q d c => match q with | 0 => coreOf m d (Fin.cast nCore_two c) (result m d)
  go := fun q d c i => match q with | 0 => tileOf m d (Fin.cast nCore_two c) (Fin.cast nSub_sixteen i) (m (oLoc d))
  td := fun q d c i => match q with | 0 => tileOf m d (Fin.cast nCore_two c) (Fin.cast nSub_sixteen i) (result m d)
  x := fun _ _ => iprop(emp)

instance P_storable : (P (F := F) m).IsStorable where
  st q d c := match q with
    | 0 => (inferInstance : BI.Storable (upEmb : UEmb _ 𝕄) (coreOf m d (Fin.cast nCore_two c) (m (oLoc d))))
  dn q d c := match q with
    | 0 => (inferInstance : BI.Storable (upEmb : UEmb _ 𝕄) (coreOf m d (Fin.cast nCore_two c) (result m d)))
  go q d c i := match q with
    | 0 => (inferInstance : BI.Storable (upEmb : UEmb _ 𝕄) (tileOf m d (Fin.cast nCore_two c) (Fin.cast nSub_sixteen i) (m (oLoc d))))
  td q d c i := match q with
    | 0 => (inferInstance : BI.Storable (upEmb : UEmb _ 𝕄) (tileOf m d (Fin.cast nCore_two c) (Fin.cast nSub_sixteen i) (result m d)))

/-! ## The tasks -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) tV (Memref.isWhole_whole _) rV (Memref.isWhole_whole _)
          cc0_scratch2 cc0_scratch3 cc0_scratch4 cc0_scratch5) ⟨⟩ c s := rfl

/-- What a task leaves owed, as the launch asks for it. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  iframe
  iexists W'
  isplitr
  · ipureintro; exact fun p hp => (hW p hp).elim .inl fun h => .inr (.inl h)
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF (shareOf (Fin.cast nCore_two c) (Fin.cast nSub_sixteen i)) O W hO).trans
    (wp_mono frame _ _ fun _ => post_weaken)

theorem bigSep_subs (Φ : Fin 16 → sProp 𝕄) :
    (bigSep Finset.univ fun i : Fin ((K (F := F)).nSub 0) => Φ (Fin.cast nSub_sixteen i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_two i)) = bigSep Finset.univ Φ :=
  bigSep_congr fun _ _ => congrArg Φ (Fin.ext rfl)

/-- A SparseCore's part is its sixteen subcores'. -/
theorem coreOf_tiles (d : Dev nD) (c : Fin 2) (f : Buf (Elt F) (oLoc d)) :
    coreOf m d c f = bigSep Finset.univ fun i : Fin 16 => tileOf m d c i f := by
  unfold coreOf tileOf
  rw [bigSep_sep', oCore_tiles, xPts_leaves d 4]
  rfl

theorem vecSplit : (K (F := F)).VecSplit' (P m) 0 := by
  intro d c
  show coreOf m d (Fin.cast nCore_two c) (m (oLoc d)) ⊢ |={Set.univ}=> iprop(
      (bigSep Finset.univ fun i : Fin ((K (F := F)).nSub 0) => tileOf m d (Fin.cast nCore_two c) (Fin.cast nSub_sixteen i) (m (oLoc d)))
      ∗ ((bigSep Finset.univ fun i : Fin ((K (F := F)).nSub 0) => tileOf m d (Fin.cast nCore_two c) (Fin.cast nSub_sixteen i) (result m d))
          -∗ coreOf m d (Fin.cast nCore_two c) (result m d)))
  rw [bigSep_subs (fun i => tileOf m d (Fin.cast nCore_two c) i (m (oLoc d))), bigSep_subs (fun i => tileOf m d (Fin.cast nCore_two c) i (result m d)),
    ← coreOf_tiles, ← coreOf_tiles]
  iintro H; imodintro
  isplitl [H]; · iexact H
  iintro H; iexact H

/-! ## The launch element of the ghost state -/

theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The packed rows and the results, whole, are the two SparseCores' parts. -/
theorem whole_cores (d : Dev nD) (f : Buf (Elt F) (oLoc d)) :
    (bigSep Finset.univ fun c : Fin 2 => coreOf m d c f) = iprop(xPts d fullShare (m (xLoc d)) ∗ oLoc d ↦{fullShare} f) := by
  unfold coreOf
  rw [bigSep_sep', o_cores, xPts_leaves d 1 fullShare]
  rfl

theorem st0_eq (d : Dev nD) : (bigSep Finset.univ fun c : Fin ((K (F := F)).nCore 0) => (P m).st 0 d c)
    = iprop(xPts d fullShare (m (xLoc d)) ∗ oLoc d ↦{fullShare} m (oLoc d)) :=
  (bigSep_cores fun c => coreOf m d c (m (oLoc d))).trans (whole_cores m d _)
theorem dn0_eq (d : Dev nD) : (bigSep Finset.univ fun c : Fin ((K (F := F)).nCore 0) => (P m).dn 0 d c)
    = iprop(xPts d fullShare (m (xLoc d)) ∗ oLoc d ↦{fullShare} result m d) :=
  (bigSep_cores fun c => coreOf m d c (result m d)).trans (whole_cores m d _)

/-- What the program ends with: the packed rows as they were, the results in place. -/
abbrev FIN (d : Dev nD) : sProp 𝕄 := iprop(xPts d fullShare (m (xLoc d)) ∗ oLoc d ↦{fullShare} result m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn := (Entails.of_eq (dn0_eq m d)) $$ Hdn
  imodintro
  isplitl [Hst]; · iexact Hst
  isplitl [Hdn]; · iexact Hdn
  isplitl [Hb] <;> iassumption

def fq (d : Dev nD) (s' : Phys nD τ sig (Elt F)) : Prop := s'.mem.mem (xLoc d) = m (xLoc d) ∧ s'.mem.mem (oLoc d) = result m d

set_option maxRecDepth 16384 in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := result m d)) $$ [HSI Ho]
  · isplitl [HSI] <;> iassumption
  icases H with %h2
  ipureintro; exact ⟨funext fun i => h1 i (Finset.mem_univ i), funext fun i => h2 i (Finset.mem_univ i)⟩

/-! ## The run -/

/-- Where the program ends: the packed rows unchanged, the results those rows unpacked, every semaphore at zero. -/
def QC : PUnit × MemSt nD τ sig (Elt F) → Prop := fun r =>
  (∀ c : Dev nD, r.2.mem (xLoc c) = m (xLoc c) ∧ r.2.mem (oLoc c) = result m c) ∧ r.2.sem = fun _ => 0

/-- Every execution of the program ends, with nothing faulting, where `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tril
-- ==== Proof.Place.lean ====
/-
  Reading the reference's two scatters and its gather at one element: a stack of matrices into which columns of
  numbers are set at pairs of index words, the same pair in every matrix of the stack; at any sizes.
-/
module

public import Idealize.ShloMosaic.Lib.Routing.OpsSet
public import Idealize.ShloMosaic.Lib.Routing.OpsPair
public import Idealize.ShloMosaic.Lib.ValueIdxCore

@[expose] public section

namespace Cert.Proof.Tril

open Idealize.ShloMosaic Idealize.ShloMosaic.ValueIdx Idealize.ShloMosaic.Routing

variable {A R C N : Nat}

/-- The dimension numbers of `stack.at[:, i, j].set(u)` over `A` matrices of `R × C`, `N` pairs of index words. -/
abbrev placeDims (A R C N : Nat) (wf : ScatterDims.WF ⟨3, ![A, R, C]⟩ ⟨2, ![N, 2]⟩ ⟨2, ![A, N]⟩ [0] [1, 2] [1, 2] 1) :
    ScatterDims ⟨3, ![A, R, C]⟩ ⟨2, ![N, 2]⟩ ⟨2, ![A, N]⟩ where
  updateWindowDims := [0]
  insertedWindowDims := [1, 2]
  scatterDimsToOperandDims := [1, 2]
  indexVectorDim := 1
  wf := wf

/-- The dimension numbers of `stack[:, i, j]` over `A` matrices of `R × C`, `N` pairs of index words. -/
abbrev pickDims (A R C N : Nat) (wf : GatherDims.WF ⟨3, ![A, R, C]⟩ ⟨2, ![N, 2]⟩ ⟨2, ![A, N]⟩ [0] [1, 2] [] [1, 2] [] 1 ![A, 1, 1]) :
    GatherDims ⟨3, ![A, R, C]⟩ ⟨2, ![N, 2]⟩ ⟨2, ![A, N]⟩ where
  offsetDims := [0]
  collapsedSliceDims := [1, 2]
  operandBatchingDims := []
  startIndicesBatchingDims := []
  startIndexMap := [1, 2]
  indexVectorDim := 1
  sliceSizes := ![A, 1, 1]
  wf := wf

/-- Update `(b, k)` lands at `(b', r, c)` exactly when `b'` is `b` and the two words of pair `k`, read signed, are `r` and `c`. -/
theorem place_lands (wf : ScatterDims.WF ⟨3, ![A, R, C]⟩ ⟨2, ![N, 2]⟩ ⟨2, ![A, N]⟩ [0] [1, 2] [1, 2] 1) (idx : IVec ⟨2, ![N, 2]⟩ 32)
    (b b' : Fin A) (k : Fin N) (r : Fin R) (c : Fin C) :
    (placeDims A R C N wf).resultIdx? (ix2 b k) idx = some (ix3 b' r c)
      ↔ b = b' ∧ (idx (ix2 k 0)).toInt = (r.val : Int) ∧ (idx (ix2 k 1)).toInt = (c.val : Int) := by
  have s0 : (placeDims A R C N wf).start (ix2 b k) idx 0 = 0 := by
    unfold ScatterDims.start
    exact dif_neg (by decide : ¬ (0 : Fin 3) ∈ ([1, 2] : List (Fin 3)))
  have s1 : (placeDims A R C N wf).start (ix2 b k) idx 1 = (idx (ix2 k 0)).toInt := by
    unfold ScatterDims.start
    rw [dif_pos (by decide : (1 : Fin 3) ∈ ([1, 2] : List (Fin 3)))]
    congr 2
    funext a
    match a with
    | ⟨0, _⟩ => rfl
    | ⟨1, _⟩ => rfl
  have s2 : (placeDims A R C N wf).start (ix2 b k) idx 2 = (idx (ix2 k 1)).toInt := by
    unfold ScatterDims.start
    rw [dif_pos (by decide : (2 : Fin 3) ∈ ([1, 2] : List (Fin 3)))]
    congr 2
    funext a
    match a with
    | ⟨0, _⟩ => rfl
    | ⟨1, _⟩ => rfl
  have w0 : (placeDims A R C N wf).window (ix2 b k) 0 = b.val := rfl
  have w1 : (placeDims A R C N wf).window (ix2 b k) 1 = 0 := rfl
  have w2 : (placeDims A R C N wf).window (ix2 b k) 2 = 0 := rfl
  rw [resultIdx?_eq_some, Fin.ext_iff]
  constructor
  · intro h
    have h0 := h 0
    have h1 := h 1
    have h2 := h 2
    rw [s0, w0] at h0
    rw [s1, w1] at h1
    rw [s2, w2] at h2
    change (0 : Int) + b.val = b'.val at h0
    change _ + (0 : Int) = r.val at h1
    change _ + (0 : Int) = c.val at h2
    omega
  · rintro ⟨h0, h1, h2⟩ a
    match a with
    | ⟨0, _⟩ =>
      refine (congrArg₂ (fun (p : Int) (q : Nat) => p + (q : Int)) s0 w0).trans ?_
      change (0 : Int) + b.val = b'.val
      omega
    | ⟨1, _⟩ =>
      refine (congrArg₂ (fun (p : Int) (q : Nat) => p + (q : Int)) s1 w1).trans ?_
      change _ + (0 : Int) = r.val
      omega
    | ⟨2, _⟩ =>
      refine (congrArg₂ (fun (p : Int) (q : Nat) => p + (q : Int)) s2 w2).trans ?_
      change _ + (0 : Int) = c.val
      omega

/-- `stack.at[:, i, j].set(u)` at an element that pair `k` names, and no other pair: what `u` holds for that pair. -/
theorem place_hit {α : Type} (wf : ScatterDims.WF ⟨3, ![A, R, C]⟩ ⟨2, ![N, 2]⟩ ⟨2, ![A, N]⟩ [0] [1, 2] [1, 2] 1) (idx : IVec ⟨2, ![N, 2]⟩ 32)
    (x : (⟨3, ![A, R, C]⟩ : Shape).Idx → α) (u : (⟨2, ![A, N]⟩ : Shape).Idx → α) (b : Fin A) (k : Fin N) (r : Fin R) (c : Fin C)
    (h : (idx (ix2 k 0)).toInt = (r.val : Int) ∧ (idx (ix2 k 1)).toInt = (c.val : Int))
    (hu : ∀ k' : Fin N, (idx (ix2 k' 0)).toInt = (r.val : Int) → (idx (ix2 k' 1)).toInt = (c.val : Int) → k' = k) :
    Host.scatter (placeDims A R C N wf) (fun _ y => y) x idx u (ix3 b r c) = u (ix2 b k) := by
  refine scatter_set_hit _ x idx u _ _ (fun j hj => ?_) (ix2 b k) ((place_lands wf idx b b k r c).2 ⟨rfl, h⟩)
  rw [eq_ix2 j] at hj ⊢
  obtain ⟨hb, h1, h2⟩ := (place_lands wf idx (j 0) b (j 1) r c).1 hj
  exact congrArg u (congrArg₂ ix2 hb (hu _ h1 h2))

/-- The same at an element that no pair names: the stack's own element. -/
theorem place_miss {α : Type} (wf : ScatterDims.WF ⟨3, ![A, R, C]⟩ ⟨2, ![N, 2]⟩ ⟨2, ![A, N]⟩ [0] [1, 2] [1, 2] 1) (idx : IVec ⟨2, ![N, 2]⟩ 32)
    (x : (⟨3, ![A, R, C]⟩ : Shape).Idx → α) (u : (⟨2, ![A, N]⟩ : Shape).Idx → α) (b : Fin A) (r : Fin R) (c : Fin C)
    (h : ∀ k : Fin N, (idx (ix2 k 0)).toInt = (r.val : Int) → (idx (ix2 k 1)).toInt ≠ (c.val : Int)) :
    Host.scatter (placeDims A R C N wf) (fun _ y => y) x idx u (ix3 b r c) = x (ix3 b r c) := by
  refine scatter_set_miss _ x idx u _ fun j hj => ?_
  rw [eq_ix2 j] at hj
  obtain ⟨-, h1, h2⟩ := (place_lands wf idx (j 0) b (j 1) r c).1 hj
  exact h _ h1 h2

/-- `stack[:, i, j]` at `(b, k)`, where pair `k`'s words, read signed, are `r` and `c`: element `(b, r, c)`. -/
theorem pick_at {α : Type} (wf : GatherDims.WF ⟨3, ![A, R, C]⟩ ⟨2, ![N, 2]⟩ ⟨2, ![A, N]⟩ [0] [1, 2] [] [1, 2] [] 1 ![A, 1, 1])
    (idx : IVec ⟨2, ![N, 2]⟩ 32) (x : (⟨3, ![A, R, C]⟩ : Shape).Idx → α) (b : Fin A) (k : Fin N) (r : Fin R) (c : Fin C)
    (h1 : (idx (ix2 k 0)).toInt = (r.val : Int)) (h2 : (idx (ix2 k 1)).toInt = (c.val : Int)) :
    Host.gather (pickDims A R C N wf) x idx (ix2 b k) = x (ix3 b r c) := by
  have s0 : (pickDims A R C N wf).start (ix2 b k) idx 0 = 0 := by
    unfold GatherDims.start
    exact dif_neg (by decide : ¬ (0 : Fin 3) ∈ ([1, 2] : List (Fin 3)))
  have s1 : (pickDims A R C N wf).start (ix2 b k) idx 1 = min (idx (ix2 k 0)).toInt.toNat (R - 1) := by
    unfold GatherDims.start
    rw [dif_pos (by decide : (1 : Fin 3) ∈ ([1, 2] : List (Fin 3)))]
    congr 4
    funext a
    match a with
    | ⟨0, _⟩ => rfl
    | ⟨1, _⟩ => rfl
  have s2 : (pickDims A R C N wf).start (ix2 b k) idx 2 = min (idx (ix2 k 1)).toInt.toNat (C - 1) := by
    unfold GatherDims.start
    rw [dif_pos (by decide : (2 : Fin 3) ∈ ([1, 2] : List (Fin 3)))]
    congr 4
    funext a
    match a with
    | ⟨0, _⟩ => rfl
    | ⟨1, _⟩ => rfl
  have hr := r.isLt
  have hc := c.isLt
  refine congrArg x (funext fun a => Fin.ext ?_)
  show (pickDims A R C N wf).start (ix2 b k) idx a + (pickDims A R C N wf).batchCoord (ix2 b k) a + (pickDims A R C N wf).offCoord (ix2 b k) a = _
  rw [GatherDims.batchCoord_eq_zero _ _ _ List.not_mem_nil]
  match a with
  | ⟨0, _⟩ =>
    refine (congrArg (fun p : Nat => p + 0 + b.val) s0).trans ?_
    change 0 + 0 + b.val = b.val
    omega
  | ⟨1, _⟩ =>
    refine (congrArg (fun p : Nat => p + 0 + 0) s1).trans ?_
    change _ = r.val
    omega
  | ⟨2, _⟩ =>
    refine (congrArg (fun p : Nat => p + 0 + 0) s2).trans ?_
    change _ = c.val
    omega

end Cert.Proof.Tril
-- ==== Proof.Words.lean ====
/-
  The reference's index words: a row number and a column number side by side, each first wrapped as a negative index would be.
-/
module

public import Idealize.ShloMosaic.Lib.Routing.OpsPair
public import Idealize.ShloMosaic.Lib.Pipeline.Value
public import Idealize.ShloMosaic.Lib.StableHlo.Predicate
public import Idealize.ShloMosaic.Lib.ValueIdxCore

@[expose] public section

namespace Cert.Proof.Tril

open Idealize.ShloMosaic Idealize.ShloMosaic.ValueIdx

variable {N : Nat}

/-- A vector stood up as one column, read at row `k`. -/
theorem column_at {α : Type} (h : Shape.BroadcastsInDim ⟨1, ![N]⟩ ⟨2, ![N, 1]⟩ ![0]) (a : (⟨1, ![N]⟩ : Shape).Idx → α) (k : Fin N) :
    broadcastInDim ⟨2, ![N, 1]⟩ ![0] h a (ix2 k 0) = a (ix1 k) := by
  refine congrArg a (funext fun q => Fin.ext ?_)
  match q with
  | ⟨0, _⟩ =>
    by_cases e : N = 1
    · subst e
      exact congrArg Fin.val (Subsingleton.elim (α := Fin 1) _ _)
    · exact congrArg Fin.val (dif_neg (show ¬ (⟨1, ![N]⟩ : Shape).size 0 = 1 from e))

/-- Two columns side by side, read in the first. -/
theorem pair_fst {α : Type} (h : Shape.BroadcastsInDim ⟨1, ![N]⟩ ⟨2, ![N, 1]⟩ ![0]) (h' : Shape.Concatenates [⟨2, ![N, 1]⟩, ⟨2, ![N, 1]⟩] ⟨2, ![N, 2]⟩ 1)
    (a b : (⟨1, ![N]⟩ : Shape).Idx → α) (k : Fin N) :
    concatenate ⟨2, ![N, 2]⟩ 1 [⟨⟨2, ![N, 1]⟩, broadcastInDim ⟨2, ![N, 1]⟩ ![0] h a⟩, ⟨⟨2, ![N, 1]⟩, broadcastInDim ⟨2, ![N, 1]⟩ ![0] h b⟩] h' (ix2 k 0)
      = a (ix1 k) :=
  (concatenate_pair_apply_left 1 _ _ h' (ix2 k 0) rfl (ix2 k 0) fun q => match q with | ⟨0, _⟩ => rfl | ⟨1, _⟩ => rfl).trans (column_at h a k)

/-- Two columns side by side, read in the second. -/
theorem pair_snd {α : Type} (h : Shape.BroadcastsInDim ⟨1, ![N]⟩ ⟨2, ![N, 1]⟩ ![0]) (h' : Shape.Concatenates [⟨2, ![N, 1]⟩, ⟨2, ![N, 1]⟩] ⟨2, ![N, 2]⟩ 1)
    (a b : (⟨1, ![N]⟩ : Shape).Idx → α) (k : Fin N) :
    concatenate ⟨2, ![N, 2]⟩ 1 [⟨⟨2, ![N, 1]⟩, broadcastInDim ⟨2, ![N, 1]⟩ ![0] h a⟩, ⟨⟨2, ![N, 1]⟩, broadcastInDim ⟨2, ![N, 1]⟩ ![0] h b⟩] h' (ix2 k 1)
      = b (ix1 k) :=
  (concatenate_pair_apply_right 1 _ _ h' (ix2 k 1) rfl rfl (ix2 k 0)
    (fun q hq => match q, hq with | ⟨0, _⟩, _ => rfl | ⟨1, _⟩, hq => (hq rfl).elim) rfl).trans (column_at h b k)

/-- A vector of index words wrapped at 256, read where the word is not negative: the word itself. -/
theorem wrapped_at (h : Shape.BroadcastsInDim ⟨0, ![]⟩ ⟨1, ![N]⟩ ![]) (a : IVec ⟨1, ![N]⟩ 32) (k : Fin N) (n : Nat) (hn : n < 2 ^ 31)
    (e : (a (ix1 k)).toNat = n) :
    ((select (cmpi .slt a (broadcastInDim ⟨1, ![N]⟩ ![] h (constantI ⟨0, ![]⟩ 32 0#32))) (addi a (broadcastInDim ⟨1, ![N]⟩ ![] h (constantI ⟨0, ![]⟩ 32 256#32))) a)
      (ix1 k)).toInt = (n : Int) := by
  refine (congrArg BitVec.toInt (Routing.wrap_of_lt (a (ix1 k)) (IntOp.addi (a (ix1 k)) 256#32) (e ▸ hn))).trans ?_
  rw [BitVec.toInt_eq_toNat_of_lt (by omega), e]

end Cert.Proof.Tril
-- ==== Proof.Tables.lean ====
/-
  The reference's two literal tables: entry `i` of the first is the row and entry `i` of the second the column of packed element `i`.
-/
module

public import proofs.«01_k».proof.Proof.Base
public import proofs.«01_k».proof.ReferenceIdeal
public import Mathlib.Tactic.IntervalCases

@[expose] public section

namespace Cert.Proof.Tril

open Idealize.ShloMosaic

/-- What entry `i` of the two tables, `r` and `c`, should say: the two words name an element on or below the diagonal whose packed position is `i`.
    Past the tables' end nothing is asked. -/
def entryOk (r c : BitVec 32) (i : Nat) : Bool :=
  if i < 32896 then r.toNat < 256 && c.toNat ≤ r.toNat && r.toNat * (r.toNat + 1) / 2 + c.toNat == i else true

set_option maxRecDepth 100000 in
set_option maxHeartbeats 40000000 in
/-- Every entry of the two tables, taken as 33 runs of 1024. -/
theorem entries_ok (q : Nat) (hq : q < 33) : ∀ a < 8, ∀ b < 128,
    entryOk (Cert.ReferenceIdeal.lit0t (1024 * q + (128 * a + b))) (Cert.ReferenceIdeal.lit1t (1024 * q + (128 * a + b))) (1024 * q + (128 * a + b)) = true := by
  interval_cases q <;> decide +kernel

/-- The two tables at entry `i`: the row is below 256, the column is not past it, and the packed position of the pair is `i`. -/
theorem tables (i : Nat) (h : i < 32896) : (Cert.ReferenceIdeal.lit0t i).toNat < 256 ∧ (Cert.ReferenceIdeal.lit1t i).toNat ≤ (Cert.ReferenceIdeal.lit0t i).toNat
    ∧ tri (Cert.ReferenceIdeal.lit0t i).toNat + (Cert.ReferenceIdeal.lit1t i).toNat = i := by
  have e := entries_ok (i / 1024) (by omega) (i % 1024 / 128) (by omega) (i % 128) (Nat.mod_lt _ (by decide))
  rw [show 1024 * (i / 1024) + (128 * (i % 1024 / 128) + i % 128) = i by omega, entryOk, if_pos h] at e
  simpa [tri, and_assoc] using e

end Cert.Proof.Tril
-- ==== Proof.RefValue.lean ====
/-
  The reference computes the value of Proof/Base.lean: its first scatter puts every packed number at its place in its
  triangle, and its second one overwrites the diagonal.
-/
module

public import proofs.«01_k».proof.Proof.Fill
public import proofs.«01_k».proof.Proof.Place
public import proofs.«01_k».proof.Proof.Words
public import proofs.«01_k».proof.Proof.Tables
public import proofs.«01_k».proof.Proof.Gen.ReferenceIdeal

@[expose] public section

noncomputable section

namespace Cert.Proof.Tril

open Idealize.ShloMosaic Idealize.ShloMosaic.ValueIdx
open Cert.ReferenceIdeal (S1024x256x256 S1024x32896 S32896x2 S256x2 S1024x256 S32896 S256 S_ S32896x1 S256x1)

variable {F : FTy → Type} [FloatOps F]

/-- Two elements on or below the diagonal with the same packed position are the same element. -/
theorem tri_inj {r c r' c' : ℕ} (h : c ≤ r) (h' : c' ≤ r') (e : tri r + c = tri r' + c') : r = r' ∧ c = c' := by
  rcases Nat.lt_trichotomy r r' with q | q | q
  · have := tri_lt q; omega
  · subst q; exact ⟨rfl, by omega⟩
  · have := tri_lt q; omega

/-- The packed position of an element of the triangle is in the packed row. -/
theorem tri_in {r c : ℕ} (hr : r < 256) (h : c ≤ r) : tri r + c < 32896 := by
  have := tri_mono (Nat.le_of_lt_succ hr)
  have e : tri 255 = 32640 := rfl
  omega

/-- Pair `k` of the first scatter's index words is the row and the column of the two tables. -/
def Named (idx : IVec S32896x2 32) : Prop := ∀ k : Fin 32896,
  (idx (ix2 k 0)).toInt = ((Cert.ReferenceIdeal.lit0t k.val).toNat : Int) ∧ (idx (ix2 k 1)).toInt = ((Cert.ReferenceIdeal.lit1t k.val).toNat : Int)

/-- Pair `k` of the diagonal's index words is `(k, k)`. -/
def Diagonal (idx : IVec S256x2 32) : Prop := ∀ k : Fin 256, (idx (ix2 k 0)).toInt = (k.val : Int) ∧ (idx (ix2 k 1)).toInt = (k.val : Int)

/-- The packed rows set into a stack of zeros at the places the tables name. -/
abbrev lower (z : S1024x256x256.Idx → F .f32) (idx : IVec S32896x2 32) (x : S1024x32896.Idx → F .f32) : S1024x256x256.Idx → F .f32 :=
  Host.scatter Cert.ReferenceIdeal.scatter_S1024x256x256_S32896x2_S1024x32896_0_12_12_1 (fun _ y => y) z idx x

/-- The stack read on or below the diagonal. -/
theorem lower_in (z : S1024x256x256.Idx → F .f32) (idx : IVec S32896x2 32) (hi : Named idx) (x : S1024x32896.Idx → F .f32)
    (b : Fin 1024) (r c : Fin 256) (h : c.val ≤ r.val) : lower z idx x (ix3 b r c) = packed x b.val (tri r.val + c.val) := by
  have hk : tri r.val + c.val < 32896 := tri_in r.isLt h
  have word : ∀ k' : Fin 32896, (idx (ix2 k' 0)).toInt = (r.val : Int) → (idx (ix2 k' 1)).toInt = (c.val : Int) → k' = ⟨tri r.val + c.val, hk⟩ := by
    intro k' h0 h1
    obtain ⟨-, -, t⟩ := tables k'.val k'.isLt
    rw [(hi k').1] at h0
    rw [(hi k').2] at h1
    rw [Int.ofNat_inj.1 h0, Int.ofNat_inj.1 h1] at t
    exact Fin.ext t.symm
  obtain ⟨-, t1, t2⟩ := tables (tri r.val + c.val) hk
  obtain ⟨e0, e1⟩ := tri_inj t1 h t2
  have := place_hit Cert.ReferenceIdeal.Facts₀.scatter_S1024x256x256_S32896x2_S1024x32896_0_12_12_1_wf idx z x b ⟨tri r.val + c.val, hk⟩ r c
    ⟨(hi _).1.trans (congrArg Nat.cast e0), (hi _).2.trans (congrArg Nat.cast e1)⟩ word
  exact this.trans (packed_idx x (ix2 b ⟨tri r.val + c.val, hk⟩)).symm

/-- The stack read above the diagonal: what it held before. -/
theorem lower_out (z : S1024x256x256.Idx → F .f32) (idx : IVec S32896x2 32) (hi : Named idx) (x : S1024x32896.Idx → F .f32)
    (b : Fin 1024) (r c : Fin 256) (h : r.val < c.val) : lower z idx x (ix3 b r c) = z (ix3 b r c) := by
  refine place_miss Cert.ReferenceIdeal.Facts₀.scatter_S1024x256x256_S32896x2_S1024x32896_0_12_12_1_wf idx z x b r c fun k h0 h1 => ?_
  obtain ⟨-, t, -⟩ := tables k.val k.isLt
  rw [(hi k).1] at h0
  rw [(hi k).2] at h1
  have := Int.ofNat_inj.1 h0
  have := Int.ofNat_inj.1 h1
  omega

/-- The reference's result over any index words that name what its own do. -/
theorem reference_value (z : S1024x256x256.Idx → F .f32) (hz : ∀ i, z i = zero) (idx : IVec S32896x2 32) (hi : Named idx)
    (jdx ldx : IVec S256x2 32) (hj : Diagonal jdx) (hl : Diagonal ldx) (x : S1024x32896.Idx → F .f32) (u : S1024x256.Idx → F .f32)
    (hu : ∀ b r, u (ix2 b r) = diag (Host.gather Cert.ReferenceIdeal.gather_S1024x256x256_S256x2_S1024x256_0_12_n_n_12_1_102411 (lower z idx x) jdx (ix2 b r))) :
    Host.scatter Cert.ReferenceIdeal.scatter_S1024x256x256_S256x2_S1024x256_0_12_12_1 (fun _ y => y) (lower z idx x) ldx u = spec x := by
  funext i
  rw [eq_ix3 i]
  generalize i 0 = b
  generalize i 1 = r
  generalize i 2 = c
  change _ = cell (packed x b.val) r.val c.val
  unfold cell
  by_cases e : c = r
  · subst e
    rw [if_neg (Nat.lt_irrefl _), if_pos rfl]
    refine (place_hit Cert.ReferenceIdeal.Facts₀.scatter_S1024x256x256_S256x2_S1024x256_0_12_12_1_wf ldx (lower z idx x) u b c c c (hl c)
      fun k' h0 _ => Fin.ext (Int.ofNat_inj.1 ((hl k').1.symm.trans h0))).trans ((hu b c).trans (congrArg diag ?_))
    exact (pick_at Cert.ReferenceIdeal.Facts₀.gather_S1024x256x256_S256x2_S1024x256_0_12_n_n_12_1_102411_wf jdx (lower z idx x) b c c c (hj c).1 (hj c).2).trans
      (lower_in z idx hi x b c c (Nat.le_refl _))
  · refine (place_miss Cert.ReferenceIdeal.Facts₀.scatter_S1024x256x256_S256x2_S1024x256_0_12_12_1_wf ldx (lower z idx x) u b r c
      fun k h0 h1 => e (Fin.ext (Int.ofNat_inj.1 (h1.symm.trans (((hl k).2.trans (hl k).1.symm).trans h0))))).trans ?_
    by_cases q : c.val < r.val
    · rw [if_pos q]
      exact lower_in z idx hi x b r c (Nat.le_of_lt q)
    · have ne : c.val ≠ r.val := fun p => e (Fin.ext p)
      rw [if_neg q, if_neg ne]
      exact (lower_out z idx hi x b r c (by omega)).trans (hz _)

/-! ## The reference's own index words -/

section Words

open Cert.ReferenceIdeal Cert.ReferenceIdeal.Gen

/-- A vector of 32896 index words, wrapped at 256 where negative. -/
abbrev wrapL (a : IVec S32896 32) : IVec S32896 32 :=
  select (cmpi .slt a (broadcastInDim S32896 ![] Facts₀.bcast_S_S32896 (constantI S_ 32 0#32))) (addi a (broadcastInDim S32896 ![] Facts₀.bcast_S_S32896 (constantI S_ 32 256#32))) a

/-- A vector of 256 index words, wrapped at 256 where negative. -/
abbrev wrapD (a : IVec S256 32) : IVec S256 32 :=
  select (cmpi .slt a (broadcastInDim S256 ![] Facts₀.bcast_S_S256 (constantI S_ 32 0#32))) (addi a (broadcastInDim S256 ![] Facts₀.bcast_S_S256 (constantI S_ 32 256#32))) a

/-- Two vectors of 32896 words side by side. -/
abbrev pairL (a b : IVec S32896 32) : IVec S32896x2 32 :=
  concatenate S32896x2 1 [⟨S32896x1, broadcastInDim S32896x1 ![0] Facts₀.bcast_S32896_S32896x1_0 a⟩, ⟨S32896x1, broadcastInDim S32896x1 ![0] Facts₀.bcast_S32896_S32896x1_0 b⟩]
    Facts₀.concatenates_S32896x1_S32896x1_S32896x2_d1

/-- Two vectors of 256 words side by side. -/
abbrev pairD (a b : IVec S256 32) : IVec S256x2 32 :=
  concatenate S256x2 1 [⟨S256x1, broadcastInDim S256x1 ![0] Facts₀.bcast_S256_S256x1_0 a⟩, ⟨S256x1, broadcastInDim S256x1 ![0] Facts₀.bcast_S256_S256x1_0 b⟩]
    Facts₀.concatenates_S256x1_S256x1_S256x2_d1

/-- Two vectors that say what the tables say, wrapped, name what the tables name. -/
theorem named (l0 l1 : IVec S32896 32) (h0 : ∀ k : Fin 32896, l0 (ix1 k) = lit0t k.val) (h1 : ∀ k : Fin 32896, l1 (ix1 k) = lit1t k.val) :
    Named (pairL (wrapL l0) (wrapL l1)) := by
  intro k
  obtain ⟨t0, t1, -⟩ := tables k.val k.isLt
  exact ⟨(congrArg BitVec.toInt (pair_fst _ _ _ _ k)).trans (wrapped_at _ l0 k _ (by omega) (congrArg BitVec.toNat (h0 k))),
    (congrArg BitVec.toInt (pair_snd _ _ _ _ k)).trans (wrapped_at _ l1 k _ (by omega) (congrArg BitVec.toNat (h1 k)))⟩

/-- Number `k` of a vector that counts from zero is `k`. -/
theorem count_at (k : Fin 256) : (iotaInDim S256 32 0 (ix1 k)).toNat = k.val := by
  show (BitVec.ofNat 32 k.val).toNat = k.val
  rw [BitVec.toNat_ofNat]
  exact Nat.mod_eq_of_lt (by have := k.isLt; omega)

/-- Two counting vectors, wrapped, name the diagonal. -/
theorem diagonal : Diagonal (pairD (wrapD (iotaInDim S256 32 0)) (wrapD (iotaInDim S256 32 0))) := fun k =>
  ⟨(congrArg BitVec.toInt (pair_fst _ _ _ _ k)).trans (wrapped_at _ _ k _ (by have := k.isLt; omega) (count_at k)),
    (congrArg BitVec.toInt (pair_snd _ _ _ _ k)).trans (wrapped_at _ _ k _ (by have := k.isLt; omega) (count_at k))⟩

/-- The stack of zeros the reference starts from. -/
abbrev zeros : S1024x256x256.Idx → F .f32 := broadcastInDim S1024x256x256 ![] Facts₀.bcast_S_S1024x256x256 (constant S_ .f32 0x00000000#32)

/-- What the reference sets on the diagonal, of the numbers `v` it read there. -/
theorem top_at (v : S1024x256.Idx → Ideal .f32) (b : Fin 1024) (r : Fin 256) :
    addf (Host.absf (addf (broadcastInDim S1024x256 ![] Facts₀.bcast_S_S1024x256 (constant S_ .f32 0x3F000000#32)) v))
        (broadcastInDim S1024x256 ![] Facts₀.bcast_S_S1024x256 (constant S_ .f32 0x3089705F#32)) (ix2 b r)
      = diag (v (ix2 b r)) := rfl

/-- The reference's result, as its operations compose, over any two vectors in the tables' place that say what the tables say. -/
theorem reference_term (l0 l1 : IVec S32896 32) (h0 : ∀ k : Fin 32896, l0 (ix1 k) = lit0t k.val) (h1 : ∀ k : Fin 32896, l1 (ix1 k) = lit1t k.val)
    (x : S1024x32896.Idx → Ideal .f32) :
    Host.scatter scatter_S1024x256x256_S256x2_S1024x256_0_12_12_1 (fun _ y => y) (lower zeros (pairL (wrapL l0) (wrapL l1)) x)
      (pairD (wrapD (iotaInDim S256 32 0)) (wrapD (iotaInDim S256 32 0)))
      (addf (Host.absf (addf (broadcastInDim S1024x256 ![] Facts₀.bcast_S_S1024x256 (constant S_ .f32 0x3F000000#32))
          (Host.gather gather_S1024x256x256_S256x2_S1024x256_0_12_n_n_12_1_102411 (lower zeros (pairL (wrapL l0) (wrapL l1)) x)
            (pairD (wrapD (iotaInDim S256 32 0)) (wrapD (iotaInDim S256 32 0))))))
        (broadcastInDim S1024x256 ![] Facts₀.bcast_S_S1024x256 (constant S_ .f32 0x3089705F#32)))
      = spec x :=
  reference_value zeros (fun _ => rfl) _ (named l0 l1 h0 h1) _ _ diagonal diagonal x _ (top_at _)

end Words

end Cert.Proof.Tril

end
-- ==== Proof.lean ====
/-
  The claims, put together: where the kernel's run ends (Proof/Launch.lean), read over the bit patterns and over the
  exact numbers; where the reference's ends; and that both results are the one value of Proof/Base.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem Cert.Kernel Cert.Proof.Tril

/-! ## The kernel -/

theorem frame_kernel : Cert.quiescent_Kernel := fun m g _ =>
  (θ_run (Cert.KernelIdeal.defs (F := Bits)) _ _).mono (fun _ h => ⟨fun c => (h.1 c).1, h.2⟩) (run_main (F := Bits) m g)

theorem frame_kernelIdeal : Cert.quiescent_KernelIdeal := fun m g _ =>
  (θ_run (Cert.KernelIdeal.defs (F := Ideal)) _ _).mono (fun _ h => ⟨fun c => (h.1 c).1, h.2⟩) (run_main (F := Ideal) m g)

/-! ## The reference -/

theorem frame_referenceIdeal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The first table as the program reads it. -/
theorem rows_at (k : Fin 32896) : Cert.ReferenceIdeal.lit0 (Cert.ReferenceIdeal.S32896.rowMajor (ValueIdx.ix1 k)) = Cert.ReferenceIdeal.lit0t k.val :=
  congrArg Cert.ReferenceIdeal.lit0t (Shape.rowMajor_val_one (ValueIdx.ix1 k))

/-- The second table as the program reads it. -/
theorem columns_at (k : Fin 32896) : Cert.ReferenceIdeal.lit1 (Cert.ReferenceIdeal.S32896.rowMajor (ValueIdx.ix1 k)) = Cert.ReferenceIdeal.lit1t k.val :=
  congrArg Cert.ReferenceIdeal.lit1t (Shape.rowMajor_val_one (ValueIdx.ix1 k))

/-- The reference's result is the value of Proof/Base.lean. -/
theorem reference_result (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v48)
          = spec (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) := by
  refine (θ_run Cert.ReferenceIdeal.defs _ _).mono (fun r h c => ⟨(h c).1.trans ?_, (h c).2⟩) (Cert.ReferenceIdeal.Value.run (F := Ideal) m g)
  exact reference_term (fun i => Cert.ReferenceIdeal.lit0 (Cert.ReferenceIdeal.S32896.rowMajor i)) (fun i => Cert.ReferenceIdeal.lit1 (Cert.ReferenceIdeal.S32896.rowMajor i))
    rows_at columns_at _

/-! ## Both -/

theorem algebraic : Cert.algebraic_KernelIdeal_ReferenceIdeal := by
  intro m g m' g' _ hagree
  refine ⟨fun c => Tril.result (F := Ideal) m c,
    (θ_run (Cert.KernelIdeal.defs (F := Ideal)) _ _).mono (fun _ h c => ⟨(h.1 c).2, (h.1 c).1⟩) (run_main (F := Ideal) m g),
    (θ_run Cert.ReferenceIdeal.defs _ _).mono (fun _ h c => ⟨(h c).1.trans (congrArg (spec (F := Ideal)) (hagree c)), (h c).2⟩) (reference_result m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
